-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_params [hPre_finite_params : Cert.Pre_finite_params.Facts] (m : (ℓ : Loc Cert.KernelIdeal.nD Cert.KernelIdeal.τ Cert.KernelIdeal.sig) → Buf (Elt Ideal) ℓ) : Prop :=
  ∀ c : Dev Cert.KernelIdeal.nD,
    (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_params [hPre_finite_params : Cert.Pre_finite_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_params [hKernelIdeal : Cert.KernelIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_params [hReferenceIdeal : Cert.ReferenceIdeal.Facts] [hPre_finite_params : Cert.Pre_finite_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_params [hKernelIdeal : Cert.KernelIdeal.Facts] [hReferenceIdeal : Cert.ReferenceIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_v234) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_params : Cert.Pre_finite_params.Facts),
    quiescent_Kernel (hKernel := hKernel)
    ∧ quiescent_KernelIdeal (hKernelIdeal := hKernelIdeal)
    ∧ quiescent_KernelIdeal_pre_finite_params (hKernelIdeal := hKernelIdeal) (hPre_finite_params := hPre_finite_params)
    ∧ quiescent_ReferenceIdeal (hReferenceIdeal := hReferenceIdeal)
    ∧ quiescent_ReferenceIdeal_pre_finite_params (hReferenceIdeal := hReferenceIdeal) (hPre_finite_params := hPre_finite_params)
    ∧ preserves_Kernel_KernelIdeal
    ∧ algebraic_KernelIdeal_ReferenceIdeal_pre_finite_params (hKernelIdeal := hKernelIdeal) (hReferenceIdeal := hReferenceIdeal) (hPre_finite_params := hPre_finite_params)
-- ==== Pre_finite_params.lean ====
abbrev S4096x512 : Shape := ⟨2, ![4096, 512]⟩
abbrev S512x32 : Shape := ⟨2, ![512, 32]⟩
abbrev S512x31 : Shape := ⟨2, ![512, 31]⟩
abbrev S_ : Shape := ⟨0, ![]⟩

class Facts : Prop where
  bcast_S_S512x32 : S_.BroadcastsInDim S512x32 (![] : Fin 0 → Fin S512x32.rank)
  reducesTo_S512x32_S_d0_1 : S512x32.ReducesTo [0, 1] S_
  h_S_ : 0 < S_.numel
  bcast_S_S512x31 : S_.BroadcastsInDim S512x31 (![] : Fin 0 → Fin S512x31.rank)
  reducesTo_S512x31_S_d0_1 : S512x31.ReducesTo [0, 1] S_

variable [Facts]

def fn {F : FTy → Type} [FloatOps F] (main_arg0 : FVec F S4096x512 .f32) (main_arg1 : FVec F S512x32 .f32) (main_arg2 : FVec F S512x32 .f32) (main_arg3 : FVec F S512x31 .f32) : IVec S_ 1 :=
  let main_v0 : FVec F S512x32 .f32 := Host.absf main_arg1
  let main_cst : FVec F S_ .f32 := constant S_ .f32 0x7F800000#32
  let main_v1 : FVec F S512x32 .f32 := broadcastInDim S512x32 ![] bcast_S_S512x32 main_cst
  let main_v2 : IVec S512x32 1 := cmpf .olt main_v0 main_v1
  let main_c : IVec S_ 1 := constantI S_ 1 1#1
  let main_v3 : IVec S_ 1 := (fun x v => Host.reduce IntOp.andi x v reducesTo_S512x32_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S512x31 .f32 := Host.absf main_arg3
  let main_cst_2 : FVec F S_ .f32 := constant S_ .f32 0x7F800000#32
  let main_v10 : FVec F S512x31 .f32 := broadcastInDim S512x31 ![] bcast_S_S512x31 main_cst_2
  let main_v11 : IVec S512x31 1 := cmpf .olt main_v9 main_v10
  let main_c_3 : IVec S_ 1 := constantI S_ 1 1#1
  let main_v12 : IVec S_ 1 := (fun x v => Host.reduce IntOp.andi x v reducesTo_S512x31_S_d0_1 h_S_) main_v11 main_c_3
  let main_v13 : IVec S_ 1 := andi main_v8 main_v12
  main_v13
-- ==== Kernel.lean ====
abbrev S4096x512 : Shape := ⟨2, ![4096, 512]⟩
abbrev S512x32 : Shape := ⟨2, ![512, 32]⟩
abbrev S512x31 : Shape := ⟨2, ![512, 31]⟩
abbrev S32x512 : Shape := ⟨2, ![32, 512]⟩
abbrev S4096 : Shape := ⟨1, ![4096]⟩
abbrev S512 : Shape := ⟨1, ![512]⟩
abbrev S512x1 : Shape := ⟨2, ![512, 1]⟩
abbrev S512x2 : Shape := ⟨2, ![512, 2]⟩
abbrev S512x30 : Shape := ⟨2, ![512, 30]⟩
abbrev S512x4 : Shape := ⟨2, ![512, 4]⟩
abbrev S512x28 : Shape := ⟨2, ![512, 28]⟩
abbrev S512x8 : Shape := ⟨2, ![512, 8]⟩
abbrev S512x24 : Shape := ⟨2, ![512, 24]⟩
abbrev S512x16 : Shape := ⟨2, ![512, 16]⟩
abbrev S512x33 : Shape := ⟨2, ![512, 33]⟩
abbrev S256x512 : Shape := ⟨2, ![256, 512]⟩
abbrev S256 : Shape := ⟨1, ![256]⟩
abbrev S1x512 : Shape := ⟨2, ![1, 512]⟩

abbrev nBuf : Space → Nat
  | .hbm => 12
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S512x32, .f32⟩
  | .hbm, ⟨2, _⟩ => ⟨S512x32, .f32⟩
  | .hbm, ⟨3, _⟩ => ⟨S512x31, .f32⟩
  | .hbm, ⟨4, _⟩ => ⟨S32x512, .f32⟩
  | .hbm, ⟨5, _⟩ => ⟨S32x512, .f32⟩
  | .hbm, ⟨6, _⟩ => ⟨S32x512, .f32⟩
  | .hbm, ⟨7, _⟩ => ⟨S32x512, .f32⟩
  | .hbm, ⟨8, _⟩ => ⟨S32x512, .f32⟩
  | .hbm, ⟨9, _⟩ => ⟨S32x512, .f32⟩
  | .hbm, ⟨10, _⟩ => ⟨S4096x512, .f32⟩
  | .hbm, ⟨11, _⟩ => ⟨S4096, .f32⟩
  | .local _ .vmem, ⟨0, _⟩ => ⟨S512x32, .f32⟩
  | .local _ .vmem, ⟨1, _⟩ => ⟨S512x32, .f32⟩
  | .local _ .vmem, ⟨2, _⟩ => ⟨S512x31, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S256x512, .f32⟩
  | .local _ .vmem, ⟨10, _⟩ => ⟨S256x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S256x512, .f32⟩
  | .local _ .vmem, ⟨18, _⟩ => ⟨S256x512, .f32⟩
  | .local _ .vmem, ⟨19, _⟩ => ⟨S256, .f32⟩
  | .local _ .vmem, ⟨20, _⟩ => ⟨S256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_call0_v0_1 : Ref sig .tc := ⟨.hbm, 5, rfl⟩
abbrev main_call0_v0_2 : Ref sig .tc := ⟨.hbm, 6, rfl⟩
abbrev main_call0_v0_3 : Ref sig .tc := ⟨.hbm, 7, rfl⟩
abbrev main_call0_v0_4 : Ref sig .tc := ⟨.hbm, 8, rfl⟩
abbrev main_call0_v0_5 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := .none

abbrev stage0_0 : Fin 1 → Memref sig .tc .vmem S512x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S4096x512 : Shape := ⟨2, ![4096, 512]⟩
abbrev S512x32 : Shape := ⟨2, ![512, 32]⟩
abbrev S512x31 : Shape := ⟨2, ![512, 31]⟩
abbrev S_ : Shape := ⟨0, ![]⟩
abbrev S512x33 : Shape := ⟨2, ![512, 33]⟩
abbrev S512 : Shape := ⟨1, ![512]⟩
abbrev S512x1 : Shape := ⟨2, ![512, 1]⟩
abbrev S1 : Shape := ⟨1, ![1]⟩
abbrev S4096x512x1 : Shape := ⟨3, ![4096, 512, 1]⟩
abbrev S1x512x33 : Shape := ⟨3, ![1, 512, 33]⟩
abbrev S4096x512x33 : Shape := ⟨3, ![4096, 512, 33]⟩
abbrev S1x512 : Shape := ⟨2, ![1, 512]⟩
abbrev S4096x512x2 : Shape := ⟨3, ![4096, 512, 2]⟩
abbrev S4096 : Shape := ⟨1, ![4096]⟩

abbrev nBuf : Space → Nat
  | .hbm => 343
  | .vmem => 0
  | .smem => 0
  | _ => 0

abbrev hbmTy0_0 (i : Nat) : BufTy := match i % 128 with
  | 0 => ⟨S4096x512, .f32⟩
  | 1 => ⟨S512x32, .f32⟩
  | 2 => ⟨S512x32, .f32⟩
  | 3 => ⟨S512x31, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S512x33, .f32⟩
  | 12 => ⟨S_, .f32⟩
  | 13 => ⟨S4096x512, .f32⟩
  | 14 => ⟨S4096x512, .i1⟩
  | 15 => ⟨S_, .f32⟩
  | 16 => ⟨S4096x512, .f32⟩
  | 17 => ⟨S4096x512, .i1⟩
  | 18 => ⟨S4096x512, .i1⟩
  | 19 => ⟨S_, .f32⟩
  | 20 => ⟨S_, .f32⟩
  | 21 => ⟨S_, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S_, .f32⟩
  | 28 => ⟨S512, .f32⟩
  | 29 => ⟨S_, .f32⟩
  | 30 => ⟨S512, .f32⟩
  | 31 => ⟨S512, .f32⟩
  | 32 => ⟨S512x1, .f32⟩
  | 33 => ⟨S512x32, .f32⟩
  | 34 => ⟨S512x32, .f32⟩
  | 35 => ⟨S512x32, .f32⟩
  | 36 => ⟨S_, .f32⟩
  | 37 => ⟨S512, .f32⟩
  | 38 => ⟨S512x1, .f32⟩
  | 39 => ⟨S512x32, .f32⟩
  | 40 => ⟨S512x32, .f32⟩
  | 41 => ⟨S_, .f32⟩
  | 42 => ⟨S512x32, .f32⟩
  | 43 => ⟨S512x32, .f32⟩
  | 44 => ⟨S_, .f32⟩
  | 45 => ⟨S512x32, .f32⟩
  | 46 => ⟨S512x32, .f32⟩
  | 47 => ⟨S_, .f32⟩
  | 48 => ⟨S_, .f32⟩
  | 49 => ⟨S512x32, .f32⟩
  | 50 => ⟨S_, .i32⟩
  | 51 => ⟨S_, .f32⟩
  | 52 => ⟨S512x33, .f32⟩
  | 53 => ⟨S_, .f32⟩
  | 54 => ⟨S512x33, .f32⟩
  | 55 => ⟨S512x33, .f32⟩
  | 56 => ⟨S_, .f32⟩
  | 57 => ⟨S512x33, .f32⟩
  | 58 => ⟨S512x33, .f32⟩
  | 59 => ⟨S_, .i32⟩
  | 60 => ⟨S1, .i32⟩
  | 61 => ⟨S_, .f32⟩
  | 62 => ⟨S512, .f32⟩
  | 63 => ⟨S512x33, .f32⟩
  | 64 => ⟨S_, .i32⟩
  | 65 => ⟨S1, .i32⟩
  | 66 => ⟨S_, .f32⟩
  | 67 => ⟨S512, .f32⟩
  | 68 => ⟨S512x33, .f32⟩
  | 69 => ⟨S512x32, .f32⟩
  | 70 => ⟨S512x32, .f32⟩
  | 71 => ⟨S512x32, .f32⟩
  | 72 => ⟨S_, .f32⟩
  | 73 => ⟨S512x33, .f32⟩
  | 74 => ⟨S512x33, .f32⟩
  | 75 => ⟨S512x33, .f32⟩
  | 76 => ⟨S512x33, .f32⟩
  | 77 => ⟨S512x33, .i1⟩
  | 78 => ⟨S512x33, .f32⟩
  | 79 => ⟨S512x33, .f32⟩
  | 80 => ⟨S512x33, .f32⟩
  | 81 => ⟨S512x33, .f32⟩
  | 82 => ⟨S512x33, .f32⟩
  | 83 => ⟨S512x33, .f32⟩
  | 84 => ⟨S512x33, .f32⟩
  | 85 => ⟨S512x33, .f32⟩
  | 86 => ⟨S_, .f32⟩
  | 87 => ⟨S512x33, .f32⟩
  | 88 => ⟨S512x33, .f32⟩
  | 89 => ⟨S_, .f32⟩
  | 90 => ⟨S512, .f32⟩
  | 91 => ⟨S_, .f32⟩
  | 92 => ⟨S512, .f32⟩
  | 93 => ⟨S512, .f32⟩
  | 94 => ⟨S512x1, .f32⟩
  | 95 => ⟨S512x32, .f32⟩
  | 96 => ⟨S512x32, .f32⟩
  | 97 => ⟨S512x32, .f32⟩
  | 98 => ⟨S_, .f32⟩
  | 99 => ⟨S512, .f32⟩
  | 100 => ⟨S512x1, .f32⟩
  | 101 => ⟨S512x32, .f32⟩
  | 102 => ⟨S512x32, .f32⟩
  | 103 => ⟨S_, .f32⟩
  | 104 => ⟨S512x32, .f32⟩
  | 105 => ⟨S512x32, .f32⟩
  | 106 => ⟨S_, .f32⟩
  | 107 => ⟨S512x32, .f32⟩
  | 108 => ⟨S512x32, .f32⟩
  | 109 => ⟨S_, .f32⟩
  | 110 => ⟨S_, .f32⟩
  | 111 => ⟨S512x32, .f32⟩
  | 112 => ⟨S_, .i32⟩
  | 113 => ⟨S_, .f32⟩
  | 114 => ⟨S512x33, .f32⟩
  | 115 => ⟨S_, .f32⟩
  | 116 => ⟨S512x33, .f32⟩
  | 117 => ⟨S512x33, .f32⟩
  | 118 => ⟨S_, .f32⟩
  | 119 => ⟨S512x33, .f32⟩
  | 120 => ⟨S512x33, .f32⟩
  | 121 => ⟨S_, .i32⟩
  | 122 => ⟨S1, .i32⟩
  | 123 => ⟨S_, .f32⟩
  | 124 => ⟨S512, .f32⟩
  | 125 => ⟨S512x33, .f32⟩
  | 126 => ⟨S_, .i32⟩
  | 127 => ⟨S1, .i32⟩
  | _ => ⟨S4096x512, .f32⟩

abbrev hbmTy0_1 (i : Nat) : BufTy := match i % 128 with
  | 0 => ⟨S_, .f32⟩
  | 1 => ⟨S512, .f32⟩
  | 2 => ⟨S512x33, .f32⟩
  | 3 => ⟨S512x32, .f32⟩
  | 4 => ⟨S512x32, .f32⟩
  | 5 => ⟨S512x32, .f32⟩
  | 6 => ⟨S_, .i32⟩
  | 7 => ⟨S1, .i32⟩
  | 8 => ⟨S_, .f32⟩
  | 9 => ⟨S512, .f32⟩
  | 10 => ⟨S512x33, .f32⟩
  | 11 => ⟨S4096x512x1, .f32⟩
  | 12 => ⟨S1x512x33, .f32⟩
  | 13 => ⟨S4096x512x33, .f32⟩
  | 14 => ⟨S4096x512x33, .f32⟩
  | 15 => ⟨S4096x512x33, .i1⟩
  | 16 => ⟨S4096x512x33, .i32⟩
  | 17 => ⟨S_, .i32⟩
  | 18 => ⟨S4096x512, .i32⟩
  | 19 => ⟨S_, .i32⟩
  | 20 => ⟨S4096x512, .i32⟩
  | 21 => ⟨S4096x512, .i32⟩
  | 22 => ⟨S_, .i32⟩
  | 23 => ⟨S_, .i32⟩
  | 24 => ⟨S_, .i32⟩
  | 25 => ⟨S4096x512, .i32⟩
  | 26 => ⟨S4096x512, .i32⟩
  | 27 => ⟨S_, .i32⟩
  | 28 => ⟨S4096x512, .i32⟩
  | 29 => ⟨S4096x512, .i32⟩
  | 30 => ⟨S512, .i32⟩
  | 31 => ⟨S1x512, .i32⟩
  | 32 => ⟨S_, .i32⟩
  | 33 => ⟨S1x512, .i32⟩
  | 34 => ⟨S1x512, .i1⟩
  | 35 => ⟨S_, .i32⟩
  | 36 => ⟨S1x512, .i32⟩
  | 37 => ⟨S1x512, .i32⟩
  | 38 => ⟨S1x512, .i32⟩
  | 39 => ⟨S_, .i32⟩
  | 40 => ⟨S4096x512, .i32⟩
  | 41 => ⟨S4096x512, .i1⟩
  | 42 => ⟨S_, .i32⟩
  | 43 => ⟨S4096x512, .i32⟩
  | 44 => ⟨S4096x512, .i32⟩
  | 45 => ⟨S4096x512, .i32⟩
  | 46 => ⟨S4096x512, .i32⟩
  | 47 => ⟨S4096x512x1, .i32⟩
  | 48 => ⟨S4096x512x1, .i32⟩
  | 49 => ⟨S4096x512x2, .i32⟩
  | 50 => ⟨S4096x512, .f32⟩
  | 51 => ⟨S_, .i32⟩
  | 52 => ⟨S1x512, .i32⟩
  | 53 => ⟨S1x512, .i1⟩
  | 54 => ⟨S_, .i32⟩
  | 55 => ⟨S1x512, .i32⟩
  | 56 => ⟨S1x512, .i32⟩
  | 57 => ⟨S1x512, .i32⟩
  | 58 => ⟨S_, .i32⟩
  | 59 => ⟨S4096x512, .i32⟩
  | 60 => ⟨S4096x512, .i1⟩
  | 61 => ⟨S_, .i32⟩
  | 62 => ⟨S4096x512, .i32⟩
  | 63 => ⟨S4096x512, .i32⟩
  | 64 => ⟨S4096x512, .i32⟩
  | 65 => ⟨S4096x512, .i32⟩
  | 66 => ⟨S4096x512x1, .i32⟩
  | 67 => ⟨S4096x512x1, .i32⟩
  | 68 => ⟨S4096x512x2, .i32⟩
  | 69 => ⟨S4096x512, .f32⟩
  | 70 => ⟨S_, .i32⟩
  | 71 => ⟨S1x512, .i32⟩
  | 72 => ⟨S1x512, .i1⟩
  | 73 => ⟨S_, .i32⟩
  | 74 => ⟨S1x512, .i32⟩
  | 75 => ⟨S1x512, .i32⟩
  | 76 => ⟨S1x512, .i32⟩
  | 77 => ⟨S_, .i32⟩
  | 78 => ⟨S4096x512, .i32⟩
  | 79 => ⟨S4096x512, .i1⟩
  | 80 => ⟨S_, .i32⟩
  | 81 => ⟨S4096x512, .i32⟩
  | 82 => ⟨S4096x512, .i32⟩
  | 83 => ⟨S4096x512, .i32⟩
  | 84 => ⟨S4096x512, .i32⟩
  | 85 => ⟨S4096x512x1, .i32⟩
  | 86 => ⟨S4096x512x1, .i32⟩
  | 87 => ⟨S4096x512x2, .i32⟩
  | 88 => ⟨S4096x512, .f32⟩
  | 89 => ⟨S512x32, .f32⟩
  | 90 => ⟨S_, .i32⟩
  | 91 => ⟨S1x512, .i32⟩
  | 92 => ⟨S1x512, .i1⟩
  | 93 => ⟨S_, .i32⟩
  | 94 => ⟨S1x512, .i32⟩
  | 95 => ⟨S1x512, .i32⟩
  | 96 => ⟨S1x512, .i32⟩
  | 97 => ⟨S_, .i32⟩
  | 98 => ⟨S4096x512, .i32⟩
  | 99 => ⟨S4096x512, .i1⟩
  | 100 => ⟨S_, .i32⟩
  | 101 => ⟨S4096x512, .i32⟩
  | 102 => ⟨S4096x512, .i32⟩
  | 103 => ⟨S4096x512, .i32⟩
  | 104 => ⟨S4096x512, .i32⟩
  | 105 => ⟨S4096x512x1, .i32⟩
  | 106 => ⟨S4096x512x1, .i32⟩
  | 107 => ⟨S4096x512x2, .i32⟩
  | 108 => ⟨S4096x512, .f32⟩
  | 109 => ⟨S_, .i32⟩
  | 110 => ⟨S1x512, .i32⟩
  | 111 => ⟨S1x512, .i1⟩
  | 112 => ⟨S_, .i32⟩
  | 113 => ⟨S1x512, .i32⟩
  | 114 => ⟨S1x512, .i32⟩
  | 115 => ⟨S1x512, .i32⟩
  | 116 => ⟨S_, .i32⟩
  | 117 => ⟨S4096x512, .i32⟩
  | 118 => ⟨S4096x512, .i1⟩
  | 119 => ⟨S_, .i32⟩
  | 120 => ⟨S4096x512, .i32⟩
  | 121 => ⟨S4096x512, .i32⟩
  | 122 => ⟨S4096x512, .i32⟩
  | 123 => ⟨S4096x512, .i32⟩
  | 124 => ⟨S4096x512x1, .i32⟩
  | 125 => ⟨S4096x512x1, .i32⟩
  | 126 => ⟨S4096x512x2, .i32⟩
  | 127 => ⟨S4096x512, .f32⟩
  | _ => ⟨S4096x512, .f32⟩

abbrev hbmTy0_2 (i : Nat) : BufTy := match i % 128 with
  | 0 => ⟨S512x32, .f32⟩
  | 1 => ⟨S_, .i32⟩
  | 2 => ⟨S1x512, .i32⟩
  | 3 => ⟨S1x512, .i1⟩
  | 4 => ⟨S_, .i32⟩
  | 5 => ⟨S1x512, .i32⟩
  | 6 => ⟨S1x512, .i32⟩
  | 7 => ⟨S1x512, .i32⟩
  | 8 => ⟨S_, .i32⟩
  | 9 => ⟨S4096x512, .i32⟩
  | 10 => ⟨S4096x512, .i1⟩
  | 11 => ⟨S_, .i32⟩
  | 12 => ⟨S4096x512, .i32⟩
  | 13 => ⟨S4096x512, .i32⟩
  | 14 => ⟨S4096x512, .i32⟩
  | 15 => ⟨S4096x512, .i32⟩
  | 16 => ⟨S4096x512x1, .i32⟩
  | 17 => ⟨S4096x512x1, .i32⟩
  | 18 => ⟨S4096x512x2, .i32⟩
  | 19 => ⟨S4096x512, .f32⟩
  | 20 => ⟨S_, .i32⟩
  | 21 => ⟨S1x512, .i32⟩
  | 22 => ⟨S1x512, .i1⟩
  | 23 => ⟨S_, .i32⟩
  | 24 => ⟨S1x512, .i32⟩
  | 25 => ⟨S1x512, .i32⟩
  | 26 => ⟨S1x512, .i32⟩
  | 27 => ⟨S_, .i32⟩
  | 28 => ⟨S4096x512, .i32⟩
  | 29 => ⟨S4096x512, .i1⟩
  | 30 => ⟨S_, .i32⟩
  | 31 => ⟨S4096x512, .i32⟩
  | 32 => ⟨S4096x512, .i32⟩
  | 33 => ⟨S4096x512, .i32⟩
  | 34 => ⟨S4096x512, .i32⟩
  | 35 => ⟨S4096x512x1, .i32⟩
  | 36 => ⟨S4096x512x1, .i32⟩
  | 37 => ⟨S4096x512x2, .i32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S4096x512, .f32⟩
  | 80 => ⟨S4096x512, .f32⟩
  | 81 => ⟨S_, .f32⟩
  | 82 => ⟨S_, .f32⟩
  | 83 => ⟨S4096x512, .f32⟩
  | 84 => ⟨S4096x512, .f32⟩
  | 85 => ⟨S_, .f32⟩
  | 86 => ⟨S4096, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_cst_5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v10 : Ref sig .tc := ⟨.hbm, 26, rfl⟩
abbrev main_cst_6 : Ref sig .tc := ⟨.hbm, 27, rfl⟩
abbrev main_v11 : Ref sig .tc := ⟨.hbm, 28, rfl⟩
abbrev main_cst_7 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_8 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_9 : Ref sig .tc := ⟨.hbm, 41, rfl⟩
abbrev main_v22 : Ref sig .tc := ⟨.hbm, 42, rfl⟩
abbrev main_v23 : Ref sig .tc := ⟨.hbm, 43, rfl⟩
abbrev main_cst_10 : Ref sig .tc := ⟨.hbm, 44, rfl⟩
abbrev main_v24 : Ref sig .tc := ⟨.hbm, 45, rfl⟩
abbrev main_v25 : Ref sig .tc := ⟨.hbm, 46, rfl⟩
abbrev main_call2_call0_cst : Ref sig .tc := ⟨.hbm, 47, rfl⟩
abbrev main_call2_call0_v0 : Ref sig .tc := ⟨.hbm, 48, rfl⟩
abbrev main_v26 : Ref sig .tc := ⟨.hbm, 49, rfl⟩
abbrev main_c : Ref sig .tc := ⟨.hbm, 50, rfl⟩
abbrev main_call3_v0 : Ref sig .tc := ⟨.hbm, 51, rfl⟩
abbrev main_v27 : Ref sig .tc := ⟨.hbm, 52, rfl⟩
abbrev main_cst_11 : Ref sig .tc := ⟨.hbm, 53, rfl⟩
abbrev main_v28 : Ref sig .tc := ⟨.hbm, 54, rfl⟩
abbrev main_v29 : Ref sig .tc := ⟨.hbm, 55, rfl⟩
abbrev main_cst_12 : Ref sig .tc := ⟨.hbm, 56, rfl⟩
abbrev main_v30 : Ref sig .tc := ⟨.hbm, 57, rfl⟩
abbrev main_v31 : Ref sig .tc := ⟨.hbm, 58, rfl⟩
abbrev main_c_13 : Ref sig .tc := ⟨.hbm, 59, rfl⟩
abbrev main_v32 : Ref sig .tc := ⟨.hbm, 60, rfl⟩
abbrev main_cst_14 : Ref sig .tc := ⟨.hbm, 61, rfl⟩
abbrev main_v33 : Ref sig .tc := ⟨.hbm, 62, rfl⟩
abbrev main_v34 : Ref sig .tc := ⟨.hbm, 63, rfl⟩
abbrev main_c_15 : Ref sig .tc := ⟨.hbm, 64, rfl⟩
abbrev main_v35 : Ref sig .tc := ⟨.hbm, 65, rfl⟩
abbrev main_cst_16 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call4_cst : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_v6 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_v41 : Ref sig .tc := ⟨.hbm, 85, rfl⟩
abbrev main_cst_17 : Ref sig .tc := ⟨.hbm, 86, rfl⟩
abbrev main_v42 : Ref sig .tc := ⟨.hbm, 87, rfl⟩
abbrev main_v43 : Ref sig .tc := ⟨.hbm, 88, rfl⟩
abbrev main_cst_18 : Ref sig .tc := ⟨.hbm, 89, rfl⟩
abbrev main_v44 : Ref sig .tc := ⟨.hbm, 90, rfl⟩
abbrev main_cst_19 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_20 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_21 : Ref sig .tc := ⟨.hbm, 103, rfl⟩
abbrev main_v55 : Ref sig .tc := ⟨.hbm, 104, rfl⟩
abbrev main_v56 : Ref sig .tc := ⟨.hbm, 105, rfl⟩
abbrev main_cst_22 : Ref sig .tc := ⟨.hbm, 106, rfl⟩
abbrev main_v57 : Ref sig .tc := ⟨.hbm, 107, rfl⟩
abbrev main_v58 : Ref sig .tc := ⟨.hbm, 108, rfl⟩
abbrev main_call5_call0_cst : Ref sig .tc := ⟨.hbm, 109, rfl⟩
abbrev main_call5_call0_v0 : Ref sig .tc := ⟨.hbm, 110, rfl⟩
abbrev main_v59 : Ref sig .tc := ⟨.hbm, 111, rfl⟩
abbrev main_c_23 : Ref sig .tc := ⟨.hbm, 112, rfl⟩
abbrev main_call6_v0 : Ref sig .tc := ⟨.hbm, 113, rfl⟩
abbrev main_v60 : Ref sig .tc := ⟨.hbm, 114, rfl⟩
abbrev main_cst_24 : Ref sig .tc := ⟨.hbm, 115, rfl⟩
abbrev main_v61 : Ref sig .tc := ⟨.hbm, 116, rfl⟩
abbrev main_v62 : Ref sig .tc := ⟨.hbm, 117, rfl⟩
abbrev main_cst_25 : Ref sig .tc := ⟨.hbm, 118, rfl⟩
abbrev main_v63 : Ref sig .tc := ⟨.hbm, 119, rfl⟩
abbrev main_v64 : Ref sig .tc := ⟨.hbm, 120, rfl⟩
abbrev main_c_26 : Ref sig .tc := ⟨.hbm, 121, rfl⟩
abbrev main_v65 : Ref sig .tc := ⟨.hbm, 122, rfl⟩
abbrev main_cst_27 : Ref sig .tc := ⟨.hbm, 123, rfl⟩
abbrev main_v66 : Ref sig .tc := ⟨.hbm, 124, rfl⟩
abbrev main_v67 : Ref sig .tc := ⟨.hbm, 125, rfl⟩
abbrev main_c_28 : Ref sig .tc := ⟨.hbm, 126, rfl⟩
abbrev main_v68 : Ref sig .tc := ⟨.hbm, 127, rfl⟩
abbrev main_cst_29 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_c_30 : Ref sig .tc := ⟨.hbm, 134, rfl⟩
abbrev main_v74 : Ref sig .tc := ⟨.hbm, 135, rfl⟩
abbrev main_cst_31 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_c_32 : Ref sig .tc := ⟨.hbm, 145, rfl⟩
abbrev main_v83 : Ref sig .tc := ⟨.hbm, 146, rfl⟩
abbrev main_c_33 : Ref sig .tc := ⟨.hbm, 147, rfl⟩
abbrev main_v84 : Ref sig .tc := ⟨.hbm, 148, rfl⟩
abbrev main_v85 : Ref sig .tc := ⟨.hbm, 149, rfl⟩
abbrev main_c_34 : Ref sig .tc := ⟨.hbm, 150, rfl⟩
abbrev main_c_35 : Ref sig .tc := ⟨.hbm, 151, rfl⟩
abbrev main_call7_v0 : Ref sig .tc := ⟨.hbm, 152, rfl⟩
abbrev main_call7_v1 : Ref sig .tc := ⟨.hbm, 153, rfl⟩
abbrev main_call7_v2 : Ref sig .tc := ⟨.hbm, 154, rfl⟩
abbrev main_call7_v3 : Ref sig .tc := ⟨.hbm, 155, rfl⟩
abbrev main_call7_v4 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_c_36 : Ref sig .tc := ⟨.hbm, 160, rfl⟩
abbrev main_v89 : Ref sig .tc := ⟨.hbm, 161, rfl⟩
abbrev main_v90 : Ref sig .tc := ⟨.hbm, 162, rfl⟩
abbrev main_c_37 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_c_38 : Ref sig .tc := ⟨.hbm, 167, rfl⟩
abbrev main_v94 : Ref sig .tc := ⟨.hbm, 168, rfl⟩
abbrev main_v95 : Ref sig .tc := ⟨.hbm, 169, rfl⟩
abbrev main_c_39 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_c_40 : Ref sig .tc := ⟨.hbm, 179, rfl⟩
abbrev main_v104 : Ref sig .tc := ⟨.hbm, 180, rfl⟩
abbrev main_v105 : Ref sig .tc := ⟨.hbm, 181, rfl⟩
abbrev main_c_41 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_c_42 : Ref sig .tc := ⟨.hbm, 186, rfl⟩
abbrev main_v109 : Ref sig .tc := ⟨.hbm, 187, rfl⟩
abbrev main_v110 : Ref sig .tc := ⟨.hbm, 188, rfl⟩
abbrev main_c_43 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_c_44 : Ref sig .tc := ⟨.hbm, 198, rfl⟩
abbrev main_v119 : Ref sig .tc := ⟨.hbm, 199, rfl⟩
abbrev main_v120 : Ref sig .tc := ⟨.hbm, 200, rfl⟩
abbrev main_c_45 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_c_46 : Ref sig .tc := ⟨.hbm, 205, rfl⟩
abbrev main_v124 : Ref sig .tc := ⟨.hbm, 206, rfl⟩
abbrev main_v125 : Ref sig .tc := ⟨.hbm, 207, rfl⟩
abbrev main_c_47 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_c_48 : Ref sig .tc := ⟨.hbm, 218, rfl⟩
abbrev main_v135 : Ref sig .tc := ⟨.hbm, 219, rfl⟩
abbrev main_v136 : Ref sig .tc := ⟨.hbm, 220, rfl⟩
abbrev main_c_49 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_c_50 : Ref sig .tc := ⟨.hbm, 225, rfl⟩
abbrev main_v140 : Ref sig .tc := ⟨.hbm, 226, rfl⟩
abbrev main_v141 : Ref sig .tc := ⟨.hbm, 227, rfl⟩
abbrev main_c_51 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_c_52 : Ref sig .tc := ⟨.hbm, 237, rfl⟩
abbrev main_v150 : Ref sig .tc := ⟨.hbm, 238, rfl⟩
abbrev main_v151 : Ref sig .tc := ⟨.hbm, 239, rfl⟩
abbrev main_c_53 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_c_54 : Ref sig .tc := ⟨.hbm, 244, rfl⟩
abbrev main_v155 : Ref sig .tc := ⟨.hbm, 245, rfl⟩
abbrev main_v156 : Ref sig .tc := ⟨.hbm, 246, rfl⟩
abbrev main_c_55 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_c_56 : Ref sig .tc := ⟨.hbm, 257, rfl⟩
abbrev main_v166 : Ref sig .tc := ⟨.hbm, 258, rfl⟩
abbrev main_v167 : Ref sig .tc := ⟨.hbm, 259, rfl⟩
abbrev main_c_57 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_c_58 : Ref sig .tc := ⟨.hbm, 264, rfl⟩
abbrev main_v171 : Ref sig .tc := ⟨.hbm, 265, rfl⟩
abbrev main_v172 : Ref sig .tc := ⟨.hbm, 266, rfl⟩
abbrev main_c_59 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_c_60 : Ref sig .tc := ⟨.hbm, 276, rfl⟩
abbrev main_v181 : Ref sig .tc := ⟨.hbm, 277, rfl⟩
abbrev main_v182 : Ref sig .tc := ⟨.hbm, 278, rfl⟩
abbrev main_c_61 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_c_62 : Ref sig .tc := ⟨.hbm, 283, rfl⟩
abbrev main_v186 : Ref sig .tc := ⟨.hbm, 284, rfl⟩
abbrev main_v187 : Ref sig .tc := ⟨.hbm, 285, rfl⟩
abbrev main_c_63 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_cst_64 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_cst_65 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_cst_66 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_cst_67 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_cst_68 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_cst_69 : Ref sig .tc := ⟨.hbm, 337, rfl⟩
abbrev main_call9_v0 : Ref sig .tc := ⟨.hbm, 338, rfl⟩
abbrev main_call9_v1 : Ref sig .tc := ⟨.hbm, 339, rfl⟩
abbrev main_v233 : Ref sig .tc := ⟨.hbm, 340, rfl⟩
abbrev main_cst_70 : Ref sig .tc := ⟨.hbm, 341, rfl⟩
abbrev main_v234 : Ref sig .tc := ⟨.hbm, 342, rfl⟩

abbrev nD : Nat := 1
abbrev τ : Topo := Topo.v7x

variable {F : FTy → Type} [FloatOps F]
-- ==== Proof.Acc.lean ====
/- The main kernel's running sums, as one recursion. For each of its six tables the body adds, row by row, an
   indicator times the difference of two consecutive rows; here the thirty-one steps are one recursive function of the
   step's number, and the two stored blocks are stated over it. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Spline

open Idealize.ShloMosaic Idealize.ShloMosaic.TcCoe Idealize.SL.Sem
open Cert.KernelIdeal Cert.KernelIdeal.Gen

variable {F : FTy → Type} [FloatOps F]

/-- A row below 32 can be cut out of a table. -/
theorem slices_row : ∀ k : Fin 32, S32x512.Slices ![k.val, 0] S1x512 := by decide

/-- Row `k` of a table, as a vector. -/
def row (t : FVec F S32x512 .f32) (k : ℕ) (h : k < 32) : FVec F S512 .f32 :=
  shapeCast S512 (extractStridedSlice S1x512 ![k, 0] t (slices_row ⟨k, h⟩)) shapeCasts_S1x512_S512

/-- A vector repeated over the block's rows. -/
def spread (v : FVec F S512 .f32) : FVec F S256x512 .f32 :=
  broadcastTo S256x512 (shapeCast S1x512 v shapeCasts_S512_S1x512) broadcasts_S1x512_S256x512

/-- One where the point has reached edge `k`, zero elsewhere. -/
def reached (xc : FVec F S256x512 .f32) (e : FVec F S32x512 .f32) (k : ℕ) (h : k < 32) : FVec F S256x512 .f32 :=
  select (cmpf .oge xc (spread (row e k h))) (broadcast S256x512 (Scalar.ofBits .f32 0x3F800000#32))
    (broadcast S256x512 (Scalar.ofBits .f32 0x00000000#32))

/-- The running sum of table `t` after step `k`. -/
def acc (xc : FVec F S256x512 .f32) (e t : FVec F S32x512 .f32) : (k : ℕ) → k < 32 → FVec F S256x512 .f32
  | 0, h => addf (broadcast S256x512 (Scalar.ofBits .f32 0x00000000#32)) (spread (row t 0 h))
  | k + 1, h => addf (acc xc e t k (Nat.lt_of_succ_lt h))
      (mulf (reached xc e (k + 1) h) (spread (subf (row t (k + 1) h) (row t k (Nat.lt_of_succ_lt h)))))

/-! ## The stored blocks -/

/-- Where the point lies between the two ends, and the point clipped to them. -/
def inside (x : FVec F S256x512 .f32) : IVec S256x512 1 :=
  andi (cmpf .oge x (broadcast S256x512 (Scalar.ofBits .f32 0xC0400000#32))) (cmpf .ole x (broadcast S256x512 (Scalar.ofBits .f32 0x40400000#32)))
def clipped (x : FVec F S256x512 .f32) : FVec F S256x512 .f32 :=
  minimumf (broadcast S256x512 (Scalar.ofBits .f32 0x40400000#32)) (maximumf (broadcast S256x512 (Scalar.ofBits .f32 0xC0400000#32)) x)

/-- The table's row of the point's bin: the running sum after the last step. -/
def pick (x : FVec F S256x512 .f32) (e t : FVec F S32x512 .f32) : FVec F S256x512 .f32 := acc (clipped x) e t 31 (by decide)

/-- The place in the bin, from the point, the bin's edge and its width. -/
def place (xc e w : FVec F S256x512 .f32) : FVec F S256x512 .f32 := divf (subf xc e) w

/-- The denominator, from the slope, the two derivatives and the place in the bin. -/
def denom (dl a b p : FVec F S256x512 .f32) : FVec F S256x512 .f32 :=
  addf dl (mulf (subf (addf a b) (mulf (broadcast S256x512 (Scalar.ofBits .f32 0x40000000#32)) dl)) (subf p (mulf p p)))

/-- The spline's value. -/
def value (ch w dl a b p : FVec F S256x512 .f32) : FVec F S256x512 .f32 :=
  addf ch (mulf (mulf (mulf dl w) (addf (mulf dl (mulf p p)) (mulf a (subf p (mulf p p)))))
    (divf (broadcast S256x512 (Scalar.ofBits .f32 0x3F800000#32)) (denom dl a b p)))

/-- The logarithm of the spline's derivative. -/
def logder (dl a b p : FVec F S256x512 .f32) : FVec F S256x512 .f32 :=
  subf (log (mulf (mulf dl dl) (addf (addf (mulf b (mulf p p)) (mulf (mulf (broadcast S256x512 (Scalar.ofBits .f32 0x40000000#32)) dl) (subf p (mulf p p))))
      (mulf (mulf a (subf (broadcast S256x512 (Scalar.ofBits .f32 0x3F800000#32)) p)) (subf (broadcast S256x512 (Scalar.ofBits .f32 0x3F800000#32)) p)))))
    (mulf (broadcast S256x512 (Scalar.ofBits .f32 0x40000000#32)) (log (denom dl a b p)))

/-- The first stored block, from the points and the six tables. -/
def block1 (x : FVec F S256x512 .f32) (e w ch dl a b : FVec F S32x512 .f32) : FVec F S256x512 .f32 :=
  select (inside x) (value (pick x e ch) (pick x e w) (pick x e dl) (pick x e a) (pick x e b) (place (clipped x) (pick x e e) (pick x e w))) x

/-- The second stored block: the sum over the block's columns. -/
def block2 (x : FVec F S256x512 .f32) (e w dl a b : FVec F S32x512 .f32) : FVec F S256 .f32 :=
  multiReduction .add [1] S256 (select (inside x)
      (logder (pick x e dl) (pick x e a) (pick x e b) (place (clipped x) (pick x e e) (pick x e w)))
      (broadcast S256x512 (Scalar.ofBits .f32 0x00000000#32)))
    0x00000000#32 reduces_S256x512_S256 (.inl rfl) rfl

/-- A table as the body reads it. -/
def tab (t : Vec F S32x512 .f32) : FVec F S32x512 .f32 := shapeCast S32x512 (View.ld t r1_1) shapeCasts_S32x512_S32x512

variable (x0 : Vec F S256x512 .f32) (x1 x2 x3 x4 x5 x6 : Vec F S32x512 .f32)

theorem acc_edge : k1_pay313 x0 x1 x2 x3 x4 x5 x6 = pick (View.ld x0 r1_0) (tab x1) (tab x1) := rfl

theorem acc_width : k1_pay314 x0 x1 x2 x3 x4 x5 x6 = pick (View.ld x0 r1_0) (tab x1) (tab x2) := rfl

theorem acc_slope : k1_pay315 x0 x1 x2 x3 x4 x5 x6 = pick (View.ld x0 r1_0) (tab x1) (tab x4) := rfl

theorem stored1 : out1_7 x0 x1 x2 x3 x4 x5 x6
    = View.canon [⟨r1_0, block1 (View.ld x0 r1_0) (tab x1) (tab x2) (tab x3) (tab x4) (tab x5) (tab x6)⟩] := rfl

theorem stored2 : out1_8 x0 x1 x2 x3 x4 x5 x6
    = View.canon [⟨r1_2, block2 (View.ld x0 r1_0) (tab x1) (tab x2) (tab x4) (tab x5) (tab x6)⟩] := rfl

end Cert.KernelIdeal.Spline

end
-- ==== Proof.Scalar.lean ====
/- The mathematics of the claim on real numbers: the constants of the two programs, the softmax widths and their running
   sums, the knots, the derivatives at the knots, the bin a point falls in, and the rational-quadratic formulas. Nothing
   here names a program. -/
module

public import Idealize.ShloMosaic.PureOps.Ideal
public import Idealize.ShloMosaic.PureOps.Ideal.Laws
public import Idealize.ShloMosaic.Lib.IdealHost

@[expose] public section

noncomputable section

namespace Cert.Spline

open Idealize.ShloMosaic

/-! ## Constants -/

/-- The f32 nearest to 0.001, exactly. -/
def c0 : ℝ := 8589935 / 2 ^ 33
/-- The f32 nearest to 0.968, exactly. -/
def c1 : ℝ := 16240345 / 2 ^ 24

theorem bits_c0 : Ideal.ofBits .f32 0x3A83126F#32 = ((c0 : ℝ) : EReal) := by
  simp [Ideal.ofBits, Ideal.ieee, -EReal.coe_mul]; norm_num [c0]
theorem bits_c1 : Ideal.ofBits .f32 0x3F77CED9#32 = ((c1 : ℝ) : EReal) := by
  simp [Ideal.ofBits, Ideal.ieee, -EReal.coe_mul]; norm_num [c1]
theorem bits_m3 : Ideal.ofBits .f32 0xC0400000#32 = ((-3 : ℝ) : EReal) := by
  simp [Ideal.ofBits, Ideal.ieee, -EReal.coe_mul, -EReal.coe_neg]; norm_num
theorem bits_3 : Ideal.ofBits .f32 0x40400000#32 = ((3 : ℝ) : EReal) := by
  simp [Ideal.ofBits, Ideal.ieee, -EReal.coe_mul]; norm_num
theorem bits_6 : Ideal.ofBits .f32 0x40C00000#32 = ((6 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_1 : Ideal.ofBits .f32 0x3F800000#32 = ((1 : ℝ) : EReal) := by
  rw [Ideal.ofBits_one_f32]; rfl
theorem bits_0 : Ideal.ofBits .f32 0x00000000#32 = ((0 : ℝ) : EReal) := by
  rw [Ideal.ofBits_zero_f32]; rfl
theorem bits_eps : Ideal.ofBits .f32 0x358637BD#32 = ((8796093 / 2 ^ 43 : ℝ) : EReal) := by
  simp [Ideal.ofBits, Ideal.ieee, -EReal.coe_mul]; norm_num
theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]

theorem c0_pos : 0 < c0 := by norm_num [c0]
theorem c0_lt_one : c0 < 1 := by norm_num [c0]
theorem c1_pos : 0 < c1 := by norm_num [c1]
theorem consts_lt : 31 * c0 + c1 < 1 := by norm_num [c0, c1]

/-! ## The extended-real operations on reals -/

theorem div_real (x : ℝ) {y : ℝ} (h : y ≠ 0) : Ideal.div (x : EReal) (y : EReal) = ((x / y : ℝ) : EReal) := by
  rw [Ideal.div_coe h, ← EReal.coe_mul]; congr 1; rw [mul_one_div]

theorem exp_real (x : ℝ) : Ideal.exp (x : EReal) = ((Real.exp x : ℝ) : EReal) := rfl

theorem log_real {x : ℝ} (h : 0 < x) : Ideal.log (x : EReal) = ((Real.log x : ℝ) : EReal) := by
  show (if x ≤ 0 then (⊥ : EReal) else _) = _
  rw [if_neg (not_le.2 h)]

theorem log1p_real {x : ℝ} (h : 0 < 1 + x) : Ideal.log1p (x : EReal) = ((Real.log (1 + x) : ℝ) : EReal) := by
  show Ideal.log (1 + (x : EReal)) = _
  rw [← log_real h, EReal.coe_add]; rfl

theorem max_real (x y : ℝ) : max (x : EReal) (y : EReal) = ((max x y : ℝ) : EReal) := (EReal.coe_strictMono.monotone.map_max).symm
theorem min_real (x y : ℝ) : min (x : EReal) (y : EReal) = ((min x y : ℝ) : EReal) := (EReal.coe_strictMono.monotone.map_min).symm

theorem sum_real {ι : Type} (s : Finset ι) (f : ι → ℝ) : (∑ i ∈ s, ((f i : ℝ) : EReal)) = ((∑ i ∈ s, f i : ℝ) : EReal) := by
  classical
  induction s using Finset.induction_on with
  | empty => rfl
  | insert a s ha ih => rw [Finset.sum_insert ha, Finset.sum_insert ha, ih, EReal.coe_add]

/-- The clipped point is a real between the two bounds. -/
theorem clip_real (x : EReal) : ∃ r : ℝ, min ((3 : ℝ) : EReal) (max ((-3 : ℝ) : EReal) x) = (r : EReal) ∧ -3 ≤ r ∧ r ≤ 3 := by
  induction x with
  | bot => exact ⟨-3, by rw [max_eq_left bot_le, min_real]; norm_num, le_refl _, by norm_num⟩
  | top => exact ⟨3, by rw [max_eq_right le_top, min_eq_left le_top], by norm_num, le_refl _⟩
  | coe x => exact ⟨min 3 (max (-3) x), by rw [max_real, min_real], le_min (by norm_num) (le_max_left _ _), min_le_left _ _⟩

/-! ## Softmax widths and knots -/

/-- The greatest of 32 reals, as a real. -/
def mx (u : Fin 32 → ℝ) : ℝ := (Finset.univ.fold max (⊥ : EReal) fun k => ((u k : ℝ) : EReal)).toReal

theorem fold_max (u : Fin 32 → ℝ) : (Finset.univ.fold max (⊥ : EReal) fun k => ((u k : ℝ) : EReal)) = ((mx u : ℝ) : EReal) := by
  refine (EReal.coe_toReal ?_ ?_).symm
  · refine ne_of_lt ?_
    rw [Finset.fold_max_lt]
    exact ⟨bot_lt_top, fun k _ => EReal.coe_lt_top _⟩
  · refine (ne_of_gt ?_)
    rw [Finset.lt_fold_max]
    exact Or.inr ⟨0, Finset.mem_univ _, EReal.bot_lt_coe _⟩

/-- The softmax's denominator. -/
def den (u : Fin 32 → ℝ) : ℝ := ∑ j, Real.exp (u j - mx u)

theorem den_pos (u : Fin 32 → ℝ) : 0 < den u := Finset.sum_pos (fun _ _ => Real.exp_pos _) Finset.univ_nonempty

/-- Width `k` of the 32 (zero past them), as a share of the whole interval. -/
def wid (u : Fin 32 → ℝ) (k : ℕ) : ℝ := if h : k < 32 then c0 + c1 * (Real.exp (u ⟨k, h⟩ - mx u) / den u) else 0

/-- The sum of the first `n` widths. -/
def cum (u : Fin 32 → ℝ) (n : ℕ) : ℝ := ∑ j ∈ Finset.range n, wid u j

/-- Knot `k` of the 33. -/
def loc (u : Fin 32 → ℝ) (k : ℕ) : ℝ := if k = 32 then 3 else if k = 0 then -3 else 6 * cum u k - 3

theorem wid_pos (u : Fin 32 → ℝ) {k : ℕ} (h : k < 32) : 0 < wid u k := by
  rw [wid, dif_pos h]
  have := div_pos (Real.exp_pos (u ⟨k, h⟩ - mx u)) (den_pos u)
  have := mul_pos c1_pos this
  linarith [c0_pos]

theorem cum_lt_one (u : Fin 32 → ℝ) : cum u 31 < 1 := by
  have e : cum u 31 = 31 * c0 + c1 * ((∑ j : Fin 31, Real.exp (u ⟨j.val, by omega⟩ - mx u)) / den u) := by
    unfold cum
    rw [Finset.sum_div, Finset.mul_sum, ← Fin.sum_univ_eq_sum_range]
    rw [Finset.sum_congr rfl fun (j : Fin 31) _ => show wid u j.val = c0 + c1 * (Real.exp (u ⟨j.val, by omega⟩ - mx u) / den u) from dif_pos (by omega)]
    rw [Finset.sum_add_distrib]
    simp
  have hS : (∑ j : Fin 31, Real.exp (u ⟨j.val, by omega⟩ - mx u)) / den u ≤ 1 := by
    rw [div_le_one (den_pos u)]
    unfold den
    rw [Fin.sum_univ_castSucc (n := 31)]
    exact le_add_of_nonneg_right (Real.exp_pos _).le
  rw [e]
  have := mul_le_mul_of_nonneg_left hS c1_pos.le
  linarith [consts_lt]

theorem loc_zero (u : Fin 32 → ℝ) : loc u 0 = -3 := by simp [loc]
theorem loc_last (u : Fin 32 → ℝ) : loc u 32 = 3 := by simp [loc]
theorem loc_mid (u : Fin 32 → ℝ) {k : ℕ} (h : k < 32) : loc u k = 6 * cum u k - 3 := by
  rw [loc, if_neg (by omega)]
  split
  · next e => subst e; simp [cum]
  · rfl

/-- Consecutive knots increase, the last one included. -/
theorem loc_lt (u : Fin 32 → ℝ) {k : ℕ} (h : k < 32) : loc u k < loc u (k + 1) := by
  rw [loc_mid u h]
  by_cases e : k = 31
  · subst e; rw [loc_last]; linarith [cum_lt_one u]
  · rw [loc_mid u (by omega), cum, cum, Finset.sum_range_succ]
    linarith [wid_pos u h]

/-! ## Windows of a sum -/

/-- The sum of the `n` terms of `W` that end at term `k` (those that exist). -/
def win (W : ℕ → ℝ) (n k : ℕ) : ℝ := ∑ j ∈ Finset.Ico (k + 1 - n) (k + 1), W j

theorem win_one (W : ℕ → ℝ) (k : ℕ) : win W 1 k = W k := by simp [win]

/-- Doubling the window: add the sum of the window before it. -/
theorem win_double (W : ℕ → ℝ) (n k : ℕ) : win W (n + n) k = win W n k + if k < n then 0 else win W n (k - n) := by
  unfold win
  split
  · next h => rw [show k + 1 - (n + n) = 0 by omega, show k + 1 - n = 0 by omega, add_zero]
  · next h =>
    rw [show k - n + 1 = k + 1 - n by omega, show k + 1 - n - n = k + 1 - (n + n) by omega]
    exact ((add_comm _ _).trans (Finset.sum_Ico_consecutive W (m := k + 1 - (n + n)) (n := k + 1 - n) (k := k + 1) (by omega) (by omega))).symm

theorem win_full (W : ℕ → ℝ) {n k : ℕ} (h : k < n) : win W n k = ∑ j ∈ Finset.range (k + 1), W j := by
  rw [win, show k + 1 - n = 0 by omega, Finset.range_eq_Ico]

/-- A window of 32 padded low by 31, the terms before the first being zero: the sum of a prefix. -/
theorem sum_padded (W : ℕ → ℝ) {k : ℕ} (h : k < 32) :
    (∑ n ∈ Finset.range 32, if 31 ≤ k + n then W (k + n - 31) else 0) = ∑ j ∈ Finset.range (k + 1), W j := by
  rw [show 32 = (31 - k) + (k + 1) by omega, Finset.sum_range_add, Finset.sum_eq_zero fun n hn => ?_, zero_add]
  · refine Finset.sum_congr rfl fun j _ => ?_
    rw [if_pos (by omega)]; congr 1; omega
  · rw [Finset.mem_range] at hn
    rw [if_neg (by omega)]

/-! ## The derivatives at the knots -/

/-- The derivative at knot `k`: one at the two ends, the least derivative plus a softplus between. -/
def dv (d : Fin 31 → ℝ) (k : ℕ) : ℝ := if k = 0 then 1 else if h : k - 1 < 31 then c0 + Real.log (1 + Real.exp (d ⟨k - 1, h⟩)) else 1

theorem softplus_pos (x : ℝ) : 0 < Real.log (1 + Real.exp x) := Real.log_pos (by linarith [Real.exp_pos x])

theorem dv_pos (d : Fin 31 → ℝ) (k : ℕ) : 0 < dv d k := by
  unfold dv
  split
  · norm_num
  · split
    · linarith [c0_pos, softplus_pos (d ⟨k - 1, by assumption⟩)]
    · norm_num

/-- The softplus the reference writes is the logarithm of one plus the exponential. -/
theorem softplus_eq (x : ℝ) : max x 0 + Real.log (1 + Real.exp (-|x|)) = Real.log (1 + Real.exp x) := by
  rcases le_total 0 x with h | h
  · rw [max_eq_left h, abs_of_nonneg h]
    have e : Real.exp x * (1 + Real.exp (-x)) = 1 + Real.exp x := by
      rw [mul_add, mul_one, ← Real.exp_add, add_neg_cancel, Real.exp_zero, add_comm]
    rw [← e, Real.log_mul (Real.exp_pos _).ne' (by linarith [Real.exp_pos (-x)]), Real.log_exp]
  · rw [max_eq_right h, abs_of_nonpos h, neg_neg, zero_add]

/-- What the reference pads the derivatives with. -/
def padv : ℝ := Real.log (Real.exp (1 - c0) - 1)

theorem exp_sub_pos : 0 < Real.exp (1 - c0) - 1 := by
  have := Real.add_one_lt_exp (show (1 - c0) ≠ 0 by linarith [c0_lt_one])
  linarith [c0_lt_one]

/-- The padded entries give a derivative of one. -/
theorem padv_eq : c0 + Real.log (1 + Real.exp padv) = 1 := by
  rw [padv, Real.exp_log exp_sub_pos, add_sub_cancel, Real.log_exp, add_sub_cancel]

/-! ## The bin -/

/-- The last of the edges 1, …, `k` that `x` has reached (0 if none). -/
def bin (E : ℕ → ℝ) (x : ℝ) : ℕ → ℕ
  | 0 => 0
  | k + 1 => if E (k + 1) ≤ x then k + 1 else bin E x k

theorem bin_le (E : ℕ → ℝ) (x : ℝ) (k : ℕ) : bin E x k ≤ k := by
  induction k with
  | zero => exact le_refl _
  | succ k ih => rw [bin]; split <;> omega

/-- Having reached an edge is having reached the ones before it. -/
theorem bin_of_le (E : ℕ → ℝ) (x : ℝ) {k : ℕ} (h : E k ≤ x) : bin E x k = k := by
  cases k with
  | zero => rfl
  | succ k => exact if_pos h

theorem edge_le (E : ℕ → ℝ) (x : ℝ) (h0 : E 0 ≤ x) (k : ℕ) : E (bin E x k) ≤ x := by
  induction k with
  | zero => exact h0
  | succ k ih => rw [bin]; split <;> assumption

theorem lt_edge (E : ℕ → ℝ) (x : ℝ) (k : ℕ) (h : bin E x k < k) : x < E (bin E x k + 1) := by
  induction k with
  | zero => omega
  | succ k ih =>
    rw [bin] at h ⊢
    split
    · next e => rw [if_pos e] at h; omega
    · next e =>
      rw [if_neg e] at h
      rcases Nat.lt_or_ge (bin E x k) k with g | g
      · exact ih g
      · rw [show bin E x k = k from le_antisymm (bin_le E x k) g]; exact not_le.1 e

/-- The number of edges 0, …, `k` that `x` has reached. -/
theorem count_edges (E : ℕ → ℝ) (x : ℝ) (n : ℕ) (hE : ∀ k, k < n → E k ≤ E (k + 1)) (h0 : E 0 ≤ x) :
    ∀ k, k ≤ n → ((Finset.range (k + 1)).filter fun j => E j ≤ x).card = bin E x k + 1 := by
  intro k
  induction k with
  | zero => intro _; simp [bin, h0, Finset.filter_singleton]
  | succ k ih =>
    intro hk
    rw [Finset.range_add_one, Finset.filter_insert, bin]
    split
    · next e =>
      rw [Finset.card_insert_of_notMem (by simp), ih (by omega),
        bin_of_le E x ((hE k (by omega)).trans e)]
    · exact ih (by omega)

/-! ## The rational-quadratic formulas -/

/-- The spline's denominator. -/
def qden (th dl a b : ℝ) : ℝ := dl + (a + b - 2 * dl) * (th * (1 - th))

theorem qden_pos {th dl a b : ℝ} (h0 : 0 ≤ th) (h1 : th ≤ 1) (hd : 0 < dl) (ha : 0 < a) (hb : 0 < b) : 0 < qden th dl a b := by
  unfold qden
  have ht : 0 ≤ th * (1 - th) := mul_nonneg h0 (by linarith)
  have hq : th * (1 - th) ≤ 1 / 4 := by nlinarith [sq_nonneg (th - 1 / 2)]
  nlinarith [mul_nonneg (add_pos ha hb).le ht, mul_le_mul_of_nonneg_left hq hd.le]

/-- The transformed point. -/
def qout (ch h dl a b th : ℝ) : ℝ := ch + h * (dl * (th * th) + a * (th * (1 - th))) / qden th dl a b

/-- The logarithm of the derivative, before its denominator is taken off. -/
def qlad (dl a b th : ℝ) : EReal :=
  Ideal.log ((dl * dl * (b * (th * th) + 2 * dl * (th * (1 - th)) + a * ((1 - th) * (1 - th))) : ℝ) : EReal)
    - ((2 : ℝ) : EReal) * Ideal.log ((qden th dl a b : ℝ) : EReal)

/-- The denominator as the main kernel writes it. -/
theorem kernel_den (dl a b th : ℝ) :
    (dl : EReal) + ((a : EReal) + (b : EReal) - ((2 : ℝ) : EReal) * (dl : EReal)) * ((th : EReal) - (th : EReal) * (th : EReal))
      = ((qden th dl a b : ℝ) : EReal) := by
  simp only [← EReal.coe_add, ← EReal.coe_mul, ← EReal.coe_sub]
  congr 1; unfold qden; ring

/-- The transformed point as the main kernel writes it. -/
theorem kernel_out (ch w dl a b th : ℝ) (hq : qden th dl a b ≠ 0) :
    (ch : EReal) + (dl : EReal) * (w : EReal) * ((dl : EReal) * ((th : EReal) * (th : EReal)) + (a : EReal) * ((th : EReal) - (th : EReal) * (th : EReal)))
        * Ideal.div ((1 : ℝ) : EReal) ((qden th dl a b : ℝ) : EReal)
      = ((qout ch (dl * w) dl a b th : ℝ) : EReal) := by
  rw [div_real _ hq]
  simp only [← EReal.coe_add, ← EReal.coe_mul, ← EReal.coe_sub]
  congr 1; unfold qout; ring

/-- The logarithm of the derivative as the main kernel writes it. -/
theorem kernel_lad (dl a b th : ℝ) :
    Ideal.log ((dl : EReal) * (dl : EReal) * ((b : EReal) * ((th : EReal) * (th : EReal))
        + ((2 : ℝ) : EReal) * (dl : EReal) * ((th : EReal) - (th : EReal) * (th : EReal))
        + (a : EReal) * (((1 : ℝ) : EReal) - (th : EReal)) * (((1 : ℝ) : EReal) - (th : EReal))))
      - ((2 : ℝ) : EReal) * Ideal.log ((qden th dl a b : ℝ) : EReal) = qlad dl a b th := by
  simp only [← EReal.coe_add, ← EReal.coe_mul, ← EReal.coe_sub]
  unfold qlad
  congr 3; ring

/-- The denominator as the reference writes it. -/
theorem ref_den (dl a b th : ℝ) :
    (dl : EReal) + ((a : EReal) + (b : EReal) - ((2 : ℝ) : EReal) * (dl : EReal)) * ((th : EReal) * (((1 : ℝ) : EReal) - (th : EReal)))
      = ((qden th dl a b : ℝ) : EReal) := by
  simp only [← EReal.coe_add, ← EReal.coe_mul, ← EReal.coe_sub]
  rfl

/-- The transformed point as the reference writes it. -/
theorem ref_out (ch h dl a b th : ℝ) (hq : qden th dl a b ≠ 0) :
    (ch : EReal) + Ideal.div ((h : EReal) * ((dl : EReal) * ((th : EReal) * (th : EReal)) + (a : EReal) * ((th : EReal) * (((1 : ℝ) : EReal) - (th : EReal)))))
        ((qden th dl a b : ℝ) : EReal)
      = ((qout ch h dl a b th : ℝ) : EReal) := by
  simp only [← EReal.coe_add, ← EReal.coe_mul, ← EReal.coe_sub]
  rw [div_real _ hq, ← EReal.coe_add]
  rfl

/-- The logarithm of the derivative as the reference writes it. -/
theorem ref_lad (dl a b th : ℝ) :
    Ideal.log ((dl : EReal) * (dl : EReal) * ((b : EReal) * ((th : EReal) * (th : EReal))
        + ((2 : ℝ) : EReal) * (dl : EReal) * ((th : EReal) * (((1 : ℝ) : EReal) - (th : EReal)))
        + (a : EReal) * ((((1 : ℝ) : EReal) - (th : EReal)) * (((1 : ℝ) : EReal) - (th : EReal)))))
      - ((2 : ℝ) : EReal) * Ideal.log ((qden th dl a b : ℝ) : EReal) = qlad dl a b th := by
  simp only [← EReal.coe_add, ← EReal.coe_mul, ← EReal.coe_sub]
  rfl

/-! ## The spline's value at a point -/

section Value

variable (uw uh : Fin 32 → ℝ) (ud : Fin 31 → ℝ) (x : ℝ)

/-- The point's bin. -/
def B : ℕ := bin (loc uw) x 31
/-- The bin's width, height, slope, and the point's place in it. -/
def bw : ℝ := loc uw (B uw x + 1) - loc uw (B uw x)
def bh : ℝ := loc uh (B uw x + 1) - loc uh (B uw x)
def bd : ℝ := bh uw uh x / bw uw x
def th : ℝ := (x - loc uw (B uw x)) / bw uw x

theorem B_lt : B uw x < 32 := Nat.lt_succ_of_le (bin_le _ _ _)

variable {uw uh ud x}

theorem bw_pos : 0 < bw uw x := sub_pos.2 (loc_lt uw (B_lt uw x))
theorem bh_pos : 0 < bh uw uh x := sub_pos.2 (loc_lt uh (B_lt uw x))
theorem bd_pos : 0 < bd uw uh x := div_pos bh_pos bw_pos
theorem bd_mul : bd uw uh x * bw uw x = bh uw uh x := div_mul_cancel₀ _ bw_pos.ne'

theorem th_nonneg (h : -3 ≤ x) : 0 ≤ th uw x :=
  div_nonneg (sub_nonneg.2 (edge_le (loc uw) x (by rw [loc_zero]; exact h) 31)) bw_pos.le

theorem th_le_one (h : x ≤ 3) : th uw x ≤ 1 := by
  rw [th, div_le_one bw_pos, bw, sub_le_sub_iff_right]
  rcases Nat.lt_or_ge (B uw x) 31 with g | g
  · exact (lt_edge (loc uw) x 31 g).le
  · rw [show B uw x = 31 from le_antisymm (bin_le _ _ _) g, loc_last]; exact h

theorem den_ne (h : -3 ≤ x) (h' : x ≤ 3) : qden (th uw x) (bd uw uh x) (dv ud (B uw x)) (dv ud (B uw x + 1)) ≠ 0 :=
  (qden_pos (th_nonneg h) (th_le_one h') bd_pos (dv_pos _ _) (dv_pos _ _)).ne'

variable (uw uh ud x)

/-- The transformed point. -/
def valOut : ℝ := qout (loc uh (B uw x)) (bh uw uh x) (bd uw uh x) (dv ud (B uw x)) (dv ud (B uw x + 1)) (th uw x)
/-- The logarithm of the derivative at the point. -/
def valLad : EReal := qlad (bd uw uh x) (dv ud (B uw x)) (dv ud (B uw x + 1)) (th uw x)

end Value

/-- Choosing the spline between the two ends and something else outside. -/
def choose (x y z : EReal) : EReal :=
  Scalar.select (IntOp.andi (FloatOps.cmpf (F := Ideal) (φ := .f32) .oge x ((-3 : ℝ) : EReal)) (FloatOps.cmpf (F := Ideal) (φ := .f32) .ole x ((3 : ℝ) : EReal))) y z

/-- The clipped point as a real. -/
def cl (x : EReal) : ℝ := (min ((3 : ℝ) : EReal) (max ((-3 : ℝ) : EReal) x)).toReal

theorem cl_spec (x : EReal) : min ((3 : ℝ) : EReal) (max ((-3 : ℝ) : EReal) x) = ((cl x : ℝ) : EReal) ∧ -3 ≤ cl x ∧ cl x ≤ 3 := by
  obtain ⟨r, h, h1, h2⟩ := clip_real x
  rw [cl, h, EReal.toReal_coe]; exact ⟨rfl, h1, h2⟩

end Cert.Spline

end
-- ==== Proof.Main.lean ====
/- The main kernel's stored blocks at a point, over the reals: a running sum ends at the table's entry of the point's
   bin, and the two blocks hold the spline's value and the row sum of the derivatives' logarithms. -/
module

public import proofs.«01_k».proof.Proof.Acc
public import proofs.«01_k».proof.Proof.Scalar

@[expose] public section

set_option maxRecDepth 16384

noncomputable section

namespace Cert.KernelIdeal.Spline

open Idealize.ShloMosaic Idealize.ShloMosaic.TcCoe Idealize.SL.Sem
open Cert.KernelIdeal Cert.KernelIdeal.Gen Cert.Spline

theorem spread_row (t : FVec Ideal S32x512 .f32) (k : ℕ) (h : k < 32) (r : Fin 256) (l : Fin 512) :
    spread (row t k h) (ix2 r l) = t (ix2 ⟨k, h⟩ l) := by
  pointwise [spread, row]

theorem spread_sub (t : FVec Ideal S32x512 .f32) (j k : ℕ) (hj : j < 32) (hk : k < 32) (r : Fin 256) (l : Fin 512) :
    spread (subf (row t j hj) (row t k hk)) (ix2 r l) = t (ix2 ⟨j, hj⟩ l) - t (ix2 ⟨k, hk⟩ l) := by
  pointwise [spread, row]

theorem reached_at (xc : FVec Ideal S256x512 .f32) (e : FVec Ideal S32x512 .f32) (k : ℕ) (h : k < 32) (r : Fin 256) (l : Fin 512) :
    reached xc e k h (ix2 r l) = if e (ix2 ⟨k, h⟩ l) ≤ xc (ix2 r l) then ((1 : ℝ) : EReal) else ((0 : ℝ) : EReal) := by
  have hr := spread_row e k h r l
  pointwise [reached, bits_1, bits_0]
  rw [hr]

/-- A running sum ends at the entry of the last edge reached. -/
theorem acc_at (xc : FVec Ideal S256x512 .f32) (e t : FVec Ideal S32x512 .f32) (r : Fin 256) (l : Fin 512) (x : ℝ) (E T : ℕ → ℝ)
    (hx : xc (ix2 r l) = (x : EReal)) (he : ∀ k : Fin 32, e (ix2 k l) = ((E k : ℝ) : EReal)) (ht : ∀ k : Fin 32, t (ix2 k l) = ((T k : ℝ) : EReal))
    (mono : ∀ k, k < 31 → E k ≤ E (k + 1)) : ∀ (k : ℕ) (h : k < 32), acc xc e t k h (ix2 r l) = ((T (bin E x k) : ℝ) : EReal)
  | 0, h => by
    have := spread_row t 0 h r l
    pointwise [acc, bits_0]
    rw [this, ht, ← EReal.coe_add, zero_add]; rfl
  | k + 1, h => by
    have ih := acc_at xc e t r l x E T hx he ht mono k (Nat.lt_of_succ_lt h)
    have hr := reached_at xc e (k + 1) h r l
    have hs := spread_sub t (k + 1) k h (Nat.lt_of_succ_lt h) r l
    pointwise [acc]
    rw [ih, hr, hs, hx, he, ht, ht, ← EReal.coe_sub, bin]
    simp only [EReal.coe_le_coe_iff]
    by_cases g : E (k + 1) ≤ x
    · rw [if_pos g, if_pos g, ← EReal.coe_mul, ← EReal.coe_add, bin_of_le E x ((mono k (by omega)).trans g)]
      congr 1; ring
    · rw [if_neg g, if_neg g, ← EReal.coe_mul, ← EReal.coe_add]
      congr 1; ring

/-! ## The blocks over real tables -/

variable (X : FVec Ideal S256x512 .f32) (e w ch dl a b : FVec Ideal S32x512 .f32)

theorem clipped_at (r : Fin 256) (l : Fin 512) :
    clipped X (ix2 r l) = min ((3 : ℝ) : EReal) (max ((-3 : ℝ) : EReal) (X (ix2 r l))) := by
  pointwise [clipped, bits_3, bits_m3]

theorem inside_at (r : Fin 256) (l : Fin 512) :
    inside X (ix2 r l) = IntOp.andi (FloatOps.cmpf (F := Ideal) (φ := .f32) .oge (X (ix2 r l)) ((-3 : ℝ) : EReal)) (FloatOps.cmpf (F := Ideal) (φ := .f32) .ole (X (ix2 r l)) ((3 : ℝ) : EReal)) := by
  pointwise [inside, bits_3, bits_m3]

variable (uw uh : Fin 512 → Fin 32 → ℝ) (ud : Fin 512 → Fin 31 → ℝ)

/-- The six tables are the spline's. -/
structure Tables : Prop where
  edge : ∀ (k : Fin 32) (l : Fin 512), e (ix2 k l) = ((loc (uw l) k : ℝ) : EReal)
  width : ∀ (k : Fin 32) (l : Fin 512), w (ix2 k l) = ((loc (uw l) (k + 1) - loc (uw l) k : ℝ) : EReal)
  low : ∀ (k : Fin 32) (l : Fin 512), ch (ix2 k l) = ((loc (uh l) k : ℝ) : EReal)
  slope : ∀ (k : Fin 32) (l : Fin 512), dl (ix2 k l) = (((loc (uh l) (k + 1) - loc (uh l) k) / (loc (uw l) (k + 1) - loc (uw l) k) : ℝ) : EReal)
  left : ∀ (k : Fin 32) (l : Fin 512), a (ix2 k l) = ((dv (ud l) k : ℝ) : EReal)
  right : ∀ (k : Fin 32) (l : Fin 512), b (ix2 k l) = ((dv (ud l) (k + 1) : ℝ) : EReal)

variable {X e w ch dl a b uw uh ud}

/-- A real table's pick is its entry at the point's bin. -/
theorem pick_at (H : Tables e w ch dl a b uw uh ud) (t : FVec Ideal S32x512 .f32) (T : ℕ → ℝ) (r : Fin 256) (l : Fin 512) (x : ℝ)
    (hx : clipped X (ix2 r l) = (x : EReal)) (ht : ∀ k : Fin 32, t (ix2 k l) = ((T k : ℝ) : EReal)) :
    pick X e t (ix2 r l) = ((T (B (uw l) x) : ℝ) : EReal) :=
  acc_at (clipped X) e t r l x (loc (uw l)) T hx (fun k => H.edge k l) ht (fun k hk => (loc_lt (uw l) (by omega)).le) 31 _

theorem place_at (H : Tables e w ch dl a b uw uh ud) (r : Fin 256) (l : Fin 512) (x : ℝ) (hx : clipped X (ix2 r l) = (x : EReal)) :
    place (clipped X) (pick X e e) (pick X e w) (ix2 r l) = ((th (uw l) x : ℝ) : EReal) := by
  have he := pick_at H e _ r l x hx (fun k => H.edge k l)
  have hw := pick_at H w (fun k => loc (uw l) (k + 1) - loc (uw l) k) r l x hx (fun k => H.width k l)
  pointwise [place]
  rw [hx, he, hw, ← EReal.coe_sub]
  exact div_real _ bw_pos.ne'

theorem value_at (H : Tables e w ch dl a b uw uh ud) (r : Fin 256) (l : Fin 512) (x : ℝ) (hx : clipped X (ix2 r l) = (x : EReal))
    (h : -3 ≤ x) (h' : x ≤ 3) :
    value (pick X e ch) (pick X e w) (pick X e dl) (pick X e a) (pick X e b) (place (clipped X) (pick X e e) (pick X e w)) (ix2 r l)
      = ((valOut (uw l) (uh l) (ud l) x : ℝ) : EReal) := by
  have hp := place_at H r l x hx
  have hc := pick_at H ch _ r l x hx (fun k => H.low k l)
  have hw := pick_at H w (fun k => loc (uw l) (k + 1) - loc (uw l) k) r l x hx (fun k => H.width k l)
  have hd := pick_at H dl (fun k => (loc (uh l) (k + 1) - loc (uh l) k) / (loc (uw l) (k + 1) - loc (uw l) k)) r l x hx (fun k => H.slope k l)
  have ha := pick_at H a _ r l x hx (fun k => H.left k l)
  have hb := pick_at H b (fun k => dv (ud l) (k + 1)) r l x hx (fun k => H.right k l)
  generalize place (clipped X) (pick X e e) (pick X e w) = P at hp ⊢
  pointwise [value, denom, bits_1, bits_2]
  rw [hp, hc, hw, hd, ha, hb, kernel_den]
  refine (kernel_out _ _ _ _ _ _ (den_ne (uh := uh l) (ud := ud l) h h')).trans ?_
  rw [valOut, ← bd_mul]; rfl

theorem logder_at (H : Tables e w ch dl a b uw uh ud) (r : Fin 256) (l : Fin 512) (x : ℝ) (hx : clipped X (ix2 r l) = (x : EReal)) :
    logder (pick X e dl) (pick X e a) (pick X e b) (place (clipped X) (pick X e e) (pick X e w)) (ix2 r l)
      = valLad (uw l) (uh l) (ud l) x := by
  have hp := place_at H r l x hx
  have hd := pick_at H dl (fun k => (loc (uh l) (k + 1) - loc (uh l) k) / (loc (uw l) (k + 1) - loc (uw l) k)) r l x hx (fun k => H.slope k l)
  have ha := pick_at H a _ r l x hx (fun k => H.left k l)
  have hb := pick_at H b (fun k => dv (ud l) (k + 1)) r l x hx (fun k => H.right k l)
  generalize place (clipped X) (pick X e e) (pick X e w) = P at hp ⊢
  pointwise [logder, denom, bits_1, bits_2]
  rw [hp, hd, ha, hb, kernel_den]
  exact kernel_lad _ _ _ _

theorem block1_at (H : Tables e w ch dl a b uw uh ud) (r : Fin 256) (l : Fin 512) :
    block1 X e w ch dl a b (ix2 r l)
      = choose (X (ix2 r l)) ((valOut (uw l) (uh l) (ud l) (cl (X (ix2 r l))) : ℝ) : EReal) (X (ix2 r l)) := by
  obtain ⟨hc, h1, h2⟩ := cl_spec (X (ix2 r l))
  have hv := value_at H r l _ ((clipped_at X r l).trans hc) h1 h2
  have hi := inside_at X r l
  pointwise [block1]
  rw [hv, hi]; rfl

theorem block2_at (H : Tables e w ch dl a b uw uh ud) (r : Fin 256) :
    block2 X e w dl a b (ix1 r)
      = ∑ l : Fin 512, choose (X (ix2 r l)) (valLad (uw l) (uh l) (ud l) (cl (X (ix2 r l)))) ((0 : ℝ) : EReal) := by
  have hv := fun l => logder_at H r l _ ((clipped_at X r l).trans (cl_spec (X (ix2 r l))).1)
  have hi := fun l => inside_at X r l
  pointwise [block2, bits_0]
  exact Finset.sum_congr rfl fun l _ => by rw [hv, hi]; rfl

end Cert.KernelIdeal.Spline

end
-- ==== Proof.Tables.lean ====
/- The first kernel's tables, entry by entry, where the parameters are real: the knots of the two axes, the widths, the
   slopes and the derivatives at the knots. -/
module

public import proofs.«01_k».proof.Proof.Acc
public import proofs.«01_k».proof.Proof.Scalar

@[expose] public section

set_option maxRecDepth 16384

noncomputable section

namespace Cert.KernelIdeal.Spline

open Idealize.ShloMosaic Idealize.ShloMosaic.TcCoe Idealize.SL.Sem
open Cert.KernelIdeal Cert.KernelIdeal.Gen Cert.Spline

section Forms

variable {F : FTy → Type} [FloatOps F]

/-- The widths of a parameter table: a softmax along its rows, scaled and lifted. -/
def widths (v : FVec F S512x32 .f32) : FVec F S512x32 .f32 :=
  have e : FVec F S512x32 .f32 := exp (subf v (broadcastTo S512x32 (shapeCast S512x1
    (multiReduction .maximumf [1] S512 v 0xFF800000#32 reduces_S512x32_S512 (.inl rfl) rfl) shapeCasts_S512_S512x1) broadcasts_S512x1_S512x32))
  addf (broadcast S512x32 (Scalar.ofBits .f32 0x3A83126F#32)) (mulf (broadcast S512x32 (Scalar.ofBits .f32 0x3F77CED9#32))
    (divf e (broadcastTo S512x32 (shapeCast S512x1
      (multiReduction .add [1] S512 e 0x00000000#32 reduces_S512x32_S512 (.inl rfl) rfl) shapeCasts_S512_S512x1) broadcasts_S512x1_S512x32)))

def add1 (v : FVec F S512x32 .f32) : FVec F S512x32 .f32 :=
  addf v (concatenate S512x32 1 [⟨S512x1, broadcast S512x1 (Scalar.ofBits .f32 0x00000000#32)⟩,
    ⟨S512x31, extractStridedSlice S512x31 ![0, 0] v slices_S512x32_o0_0_S512x31⟩] concatenates_S512x1_S512x31_S512x32_d1)
def add2 (v : FVec F S512x32 .f32) : FVec F S512x32 .f32 :=
  addf v (concatenate S512x32 1 [⟨S512x2, broadcast S512x2 (Scalar.ofBits .f32 0x00000000#32)⟩,
    ⟨S512x30, extractStridedSlice S512x30 ![0, 0] v slices_S512x32_o0_0_S512x30⟩] concatenates_S512x2_S512x30_S512x32_d1)
def add4 (v : FVec F S512x32 .f32) : FVec F S512x32 .f32 :=
  addf v (concatenate S512x32 1 [⟨S512x4, broadcast S512x4 (Scalar.ofBits .f32 0x00000000#32)⟩,
    ⟨S512x28, extractStridedSlice S512x28 ![0, 0] v slices_S512x32_o0_0_S512x28⟩] concatenates_S512x4_S512x28_S512x32_d1)
def add8 (v : FVec F S512x32 .f32) : FVec F S512x32 .f32 :=
  addf v (concatenate S512x32 1 [⟨S512x8, broadcast S512x8 (Scalar.ofBits .f32 0x00000000#32)⟩,
    ⟨S512x24, extractStridedSlice S512x24 ![0, 0] v slices_S512x32_o0_0_S512x24⟩] concatenates_S512x8_S512x24_S512x32_d1)
def add16 (v : FVec F S512x32 .f32) : FVec F S512x32 .f32 :=
  addf v (concatenate S512x32 1 [⟨S512x16, broadcast S512x16 (Scalar.ofBits .f32 0x00000000#32)⟩,
    ⟨S512x16, extractStridedSlice S512x16 ![0, 0] v slices_S512x32_o0_0_S512x16⟩] concatenates_S512x16_S512x16_S512x32_d1)

/-- The knots of a parameter table: the widths' running sums, stretched, and the two ends put in place. -/
def knots (v : FVec F S512x32 .f32) : FVec F S512x33 .f32 :=
  select (cmpi .eq (iota .tc S512x33 32 [1] iota_S512x33_d1_w32) (broadcast S512x33 32#32)) (broadcast S512x33 (Scalar.ofBits .f32 0x40400000#32))
    (select (cmpi .eq (iota .tc S512x33 32 [1] iota_S512x33_d1_w32) (broadcast S512x33 0#32)) (broadcast S512x33 (Scalar.ofBits .f32 0xC0400000#32))
      (subf (mulf (broadcast S512x33 (Scalar.ofBits .f32 0x40C00000#32))
        (concatenate S512x33 1 [⟨S512x1, broadcast S512x1 (Scalar.ofBits .f32 0x00000000#32)⟩,
          ⟨S512x32, add16 (add8 (add4 (add2 (add1 (widths v)))))⟩] concatenates_S512x1_S512x32_S512x33_d1))
        (broadcast S512x33 (Scalar.ofBits .f32 0x40400000#32))))

theorem pay_knots (v : FVec F S512x32 .f32) :
    k0_pay5 (k0_pay2 v) (iota .tc S512x33 32 [1] iota_S512x33_d1_w32) k0_pay3 (k0_pay4 (F := F)) = knots v := rfl

theorem pay_knots' (v : FVec F S512x32 .f32) : k0_pay8 (k0_pay6 v) (k0_pay7 (F := F)) = knots v := rfl

end Forms

/-! ## At the reals -/

variable (v : FVec Ideal S512x32 .f32) (u : Fin 512 → Fin 32 → ℝ)

theorem widths_at (hv : ∀ f k, v (ix2 f k) = ((u f k : ℝ) : EReal)) (f : Fin 512) (k : Fin 32) :
    widths v (ix2 f k) = ((wid (u f) k : ℝ) : EReal) := by
  pointwise [widths, hv, bits_c0, bits_c1, bits_bot, fold_max]
  simp only [← EReal.coe_sub, exp_real, sum_real]
  rw [show (∑ j, Real.exp (u f j - mx (u f))) = den (u f) from rfl, div_real _ (den_pos _).ne']
  rw [← EReal.coe_mul, ← EReal.coe_add, wid, dif_pos k.isLt]

/-- Adding a shifted copy doubles the window, where the entries are windows of a sum: the five shifts of the kernel. -/
theorem shift_add (W : ℕ → ℝ) (n m : ℕ) (hm : n + n = m) (k : ℕ) (x y : EReal) (hx : x = ((win W n k : ℝ) : EReal))
    (hy : y = if k < n then ((0 : ℝ) : EReal) else ((win W n (k - n) : ℝ) : EReal)) : x + y = ((win W m k : ℝ) : EReal) := by
  subst hm
  rw [win_double, hx, hy, EReal.coe_add]
  split <;> rfl

theorem add1_at (W : ℕ → ℝ) (f : Fin 512) (hv : ∀ k : Fin 32, v (ix2 f k) = ((win W 1 k : ℝ) : EReal)) (k : Fin 32) :
    add1 v (ix2 f k) = ((win W 2 k : ℝ) : EReal) := by
  pointwise [add1]
  refine shift_add W 1 2 rfl k _ _ (hv k) ?_
  split <;> [rfl; exact hv _]

theorem add2_at (W : ℕ → ℝ) (f : Fin 512) (hv : ∀ k : Fin 32, v (ix2 f k) = ((win W 2 k : ℝ) : EReal)) (k : Fin 32) :
    add2 v (ix2 f k) = ((win W 4 k : ℝ) : EReal) := by
  pointwise [add2]
  refine shift_add W 2 4 rfl k _ _ (hv k) ?_
  split <;> [rfl; exact hv _]

theorem add4_at (W : ℕ → ℝ) (f : Fin 512) (hv : ∀ k : Fin 32, v (ix2 f k) = ((win W 4 k : ℝ) : EReal)) (k : Fin 32) :
    add4 v (ix2 f k) = ((win W 8 k : ℝ) : EReal) := by
  pointwise [add4]
  refine shift_add W 4 8 rfl k _ _ (hv k) ?_
  split <;> [rfl; exact hv _]

theorem add8_at (W : ℕ → ℝ) (f : Fin 512) (hv : ∀ k : Fin 32, v (ix2 f k) = ((win W 8 k : ℝ) : EReal)) (k : Fin 32) :
    add8 v (ix2 f k) = ((win W 16 k : ℝ) : EReal) := by
  pointwise [add8]
  refine shift_add W 8 16 rfl k _ _ (hv k) ?_
  split <;> [rfl; exact hv _]

theorem add16_at (W : ℕ → ℝ) (f : Fin 512) (hv : ∀ k : Fin 32, v (ix2 f k) = ((win W 16 k : ℝ) : EReal)) (k : Fin 32) :
    add16 v (ix2 f k) = ((win W 32 k : ℝ) : EReal) := by
  pointwise [add16]
  refine shift_add W 16 32 rfl k _ _ (hv k) ?_
  split <;> [rfl; exact hv _]

/-- The running sums of the widths. -/
theorem sums_at (hv : ∀ f k, v (ix2 f k) = ((u f k : ℝ) : EReal)) (f : Fin 512) (k : Fin 32) :
    add16 (add8 (add4 (add2 (add1 (widths v))))) (ix2 f k) = ((cum (u f) (k + 1) : ℝ) : EReal) := by
  have h := add16_at _ (wid (u f)) f (add8_at _ _ f (add4_at _ _ f (add2_at _ _ f (add1_at (widths v) (wid (u f)) f
    fun k => by rw [widths_at v u hv, win_one])))) k
  rw [h, win_full _ k.isLt, cum]

/-- A choice on the equality of two small words. -/
theorem select_word_eq (k n : ℕ) (hk : k < 2 ^ 32) (hn : n < 2 ^ 32) (a b : EReal) :
    Scalar.select (IntOp.cmpi .eq (BitVec.ofNat 32 k) (BitVec.ofNat 32 n)) a b = if k = n then a else b := by
  rw [WordCmp.cmpi_eq_ofNat hk hn, WordCmp.select_decide]

theorem knots_at (hv : ∀ f k, v (ix2 f k) = ((u f k : ℝ) : EReal)) (f : Fin 512) (k : Fin 33) :
    knots v (ix2 f k) = ((loc (u f) k : ℝ) : EReal) := by
  have hs := sums_at v u hv f
  generalize hS : add16 (add8 (add4 (add2 (add1 (widths v))))) = S at hs
  have hk := k.isLt
  pointwise [knots, hS, bits_m3, bits_3, bits_6]
  rw [select_word_eq k 32 (by omega) (by norm_num), select_word_eq k 0 (by omega) (by norm_num)]
  by_cases h32 : (k : ℕ) = 32
  · rw [if_pos h32, h32, loc_last]
  by_cases h0 : (k : ℕ) = 0
  · rw [if_neg h32, if_pos h0, h0, loc_zero]
  rw [if_neg h32, if_neg h0, dif_neg (by omega), hs]
  simp only [show (k : ℕ) - 1 + 1 = k by omega]
  rw [loc_mid _ (by omega), ← EReal.coe_mul, ← EReal.coe_sub]

variable (d : FVec Ideal S512x31 .f32) (z : Fin 512 → Fin 31 → ℝ)

theorem derivs_at (hd : ∀ f k, d (ix2 f k) = ((z f k : ℝ) : EReal)) (f : Fin 512) (k : Fin 33) :
    k0_pay10 (F := Ideal) d (ix2 f k) = ((dv (z f) k : ℝ) : EReal) := by
  have hk := k.isLt
  pointwise [k0_pay10, bits_c0]
  rw [dv]
  by_cases h0 : (k : ℕ) = 0
  · rw [if_pos h0, dif_pos (by omega)]; rfl
  rw [if_neg h0, dif_neg (by omega)]
  by_cases h1 : (k : ℕ) - 1 < 31
  · rw [dif_pos h1, dif_pos h1, hd, exp_real, log1p_real (by linarith [Real.exp_pos (z f ⟨(k : ℕ) - 1, h1⟩)]), ← EReal.coe_add]
  · rw [dif_neg h1, dif_neg h1]; rfl

/-! The six tables the main kernel reads. -/

variable (v' : FVec Ideal S512x32 .f32) (u' : Fin 512 → Fin 32 → ℝ)

theorem edges_at (hv : ∀ f k, v (ix2 f k) = ((u f k : ℝ) : EReal)) (k : Fin 32) (f : Fin 512) :
    k0_pay11 (knots v) (ix2 k f) = ((loc (u f) k : ℝ) : EReal) := by
  have h := knots_at v u hv
  pointwise [k0_pay11]
  exact h f _

theorem binw_at (hv : ∀ f k, v (ix2 f k) = ((u f k : ℝ) : EReal)) (k : Fin 32) (f : Fin 512) :
    k0_pay12 (knots v) (ix2 k f) = ((loc (u f) (k + 1) - loc (u f) k : ℝ) : EReal) := by
  have h := knots_at v u hv
  pointwise [k0_pay12, k0_pay9]
  rw [h, h, EReal.coe_sub, Nat.add_comm (k : ℕ) 1]

theorem slope_at (hv : ∀ f k, v (ix2 f k) = ((u f k : ℝ) : EReal)) (hv' : ∀ f k, v' (ix2 f k) = ((u' f k : ℝ) : EReal)) (k : Fin 32) (f : Fin 512) :
    k0_pay14 (knots v) (k0_pay6 v') (k0_pay7 (F := Ideal)) (ix2 k f)
      = (((loc (u' f) (k + 1) - loc (u' f) k) / (loc (u f) (k + 1) - loc (u f) k) : ℝ) : EReal) := by
  have h := knots_at v u hv
  have h' := knots_at v' u' hv'
  have hp : 0 < loc (u f) (k + 1) - loc (u f) k := sub_pos.mpr (loc_lt (u f) k.isLt)
  pointwise [k0_pay14, k0_pay9, pay_knots']
  rw [h, h, h', h', ← EReal.coe_sub, ← EReal.coe_sub]
  simp only [Nat.add_comm 1 (k : ℕ)]
  exact div_real _ hp.ne'

theorem low_at (hv' : ∀ f k, v' (ix2 f k) = ((u' f k : ℝ) : EReal)) (k : Fin 32) (f : Fin 512) :
    k0_pay13 (k0_pay6 v') (k0_pay7 (F := Ideal)) (ix2 k f) = ((loc (u' f) k : ℝ) : EReal) := by
  have h' := knots_at v' u' hv'
  pointwise [k0_pay13, pay_knots']
  exact h' f _

theorem left_at (hd : ∀ f k, d (ix2 f k) = ((z f k : ℝ) : EReal)) (k : Fin 32) (f : Fin 512) :
    k0_pay15 (F := Ideal) d (ix2 k f) = ((dv (z f) k : ℝ) : EReal) := by
  have h := derivs_at d z hd
  pointwise [k0_pay15]
  exact h f _

theorem right_at (hd : ∀ f k, d (ix2 f k) = ((z f k : ℝ) : EReal)) (k : Fin 32) (f : Fin 512) :
    k0_pay1 (F := Ideal) (k0_pay10 d) (ix2 k f) = ((dv (z f) (k + 1) : ℝ) : EReal) := by
  have h := derivs_at d z hd
  pointwise [k0_pay1]
  rw [h, Nat.add_comm (k : ℕ) 1]

end Cert.KernelIdeal.Spline

end
-- ==== Proof.Arrays.lean ====
/- What the two kernels leave in their arrays: the first's six tables from the three parameter arrays, the second's two
   results block by block, each at an index. -/
module

public import proofs.«01_k».proof.Proof.Main
public import proofs.«01_k».proof.Proof.Tables

@[expose] public section

set_option maxRecDepth 16384

noncomputable section

namespace Cert.KernelIdeal.Spline

open Idealize.ShloMosaic Idealize.ShloMosaic.TcCoe Idealize.SL.Sem
open Cert.KernelIdeal Cert.KernelIdeal.Gen Cert.Spline

variable (m : (ℓ : Loc nD τ sig) → Buf (Elt Ideal) ℓ) (ρ : Dev nD → PrngReg) (c : Dev nD)

/-- The parameter arrays and the points. -/
abbrev aX : FVec Ideal S4096x512 .f32 := m ((c : Thread nD τ).loc main_arg0)
abbrev aW : FVec Ideal S512x32 .f32 := m ((c : Thread nD τ).loc main_arg1)
abbrev aH : FVec Ideal S512x32 .f32 := m ((c : Thread nD τ).loc main_arg2)
abbrev aD : FVec Ideal S512x31 .f32 := m ((c : Thread nD τ).loc main_arg3)

/-- Every window of the first kernel sits at the array's start at its one point. -/
theorem idx0 : ∀ t : Fin cfg0.N, win0_0.index t = ![0, 0] ∧ win0_1.index t = ![0, 0] ∧ win0_2.index t = ![0, 0] :=
  (by decide +kernel : ∀ t : Fin grid0.N, _)

theorem in0 : iblk0 (V0 m ρ) c 0 t0_0 = m ((c : Thread nD τ).loc main_arg1) := by blk_ext! [iblk0, V0, W0, idx0 t0_0]
theorem in1 : iblk0 (V0 m ρ) c 1 t0_0 = m ((c : Thread nD τ).loc main_arg2) := by blk_ext! [iblk0, V0, W0, idx0 t0_0]
theorem in2 : iblk0 (V0 m ρ) c 2 t0_0 = m ((c : Thread nD τ).loc main_arg3) := by blk_ext! [iblk0, V0, W0, idx0 t0_0]

theorem off0 : (![0, 0] : Fin 2 → ℕ) = fun _ => 0 := funext fun a => by fin_cases a <;> rfl

theorem pay16 (x y : Vec Ideal S512x32 .f32) (z : Vec Ideal S512x31 .f32) : k0_pay16 x y z = knots x := by
  have h : k0_pay16 x y z = knots (View.ld x r0_0) := by unfold k0_pay16; exact pay_knots _
  exact h.trans (congrArg knots (View.ld_unit_zero off0 _ x))

theorem pay17 (x y : Vec Ideal S512x32 .f32) (z : Vec Ideal S512x31 .f32) : k0_pay17 x y z = k0_pay6 y :=
  congrArg k0_pay6 (View.ld_unit_zero off0 _ y)

theorem arr_edges : (dat0 (V0 m ρ) c).arrAt 3 cfg0.N = (show FVec Ideal S32x512 .f32 from k0_pay11 (knots (aW m c))) := by
  refine (dat0 (V0 m ρ) c).arrAt_eq_of_after_last 3 t0_0 (by decide +kernel) _ fun j => ?_
  blk_simp
  rw [after0_3, in0, in1, in2]
  frame_out
  rw [pay16]

theorem arr_widths : (dat0 (V0 m ρ) c).arrAt 4 cfg0.N = (show FVec Ideal S32x512 .f32 from k0_pay12 (knots (aW m c))) := by
  refine (dat0 (V0 m ρ) c).arrAt_eq_of_after_last 4 t0_0 (by decide +kernel) _ fun j => ?_
  blk_simp
  rw [after0_4, in0, in1, in2]
  frame_out
  rw [pay16]

theorem arr_low : (dat0 (V0 m ρ) c).arrAt 5 cfg0.N = (show FVec Ideal S32x512 .f32 from k0_pay13 (k0_pay6 (aH m c)) (k0_pay7 (F := Ideal))) := by
  refine (dat0 (V0 m ρ) c).arrAt_eq_of_after_last 5 t0_0 (by decide +kernel) _ fun j => ?_
  blk_simp
  rw [after0_5, in0, in1, in2]
  frame_out
  rw [pay17]; rfl

theorem arr_slope : (dat0 (V0 m ρ) c).arrAt 6 cfg0.N = (show FVec Ideal S32x512 .f32 from k0_pay14 (knots (aW m c)) (k0_pay6 (aH m c)) (k0_pay7 (F := Ideal))) := by
  refine (dat0 (V0 m ρ) c).arrAt_eq_of_after_last 6 t0_0 (by decide +kernel) _ fun j => ?_
  blk_simp
  rw [after0_6, in0, in1, in2]
  frame_out
  rw [pay16, pay17]; rfl

theorem arr_left : (dat0 (V0 m ρ) c).arrAt 7 cfg0.N = (show FVec Ideal S32x512 .f32 from k0_pay15 (F := Ideal) (aD m c)) := by
  refine (dat0 (V0 m ρ) c).arrAt_eq_of_after_last 7 t0_0 (by decide +kernel) _ fun j => ?_
  blk_simp
  rw [after0_7, in0, in1, in2]
  frame_out

theorem arr_right : (dat0 (V0 m ρ) c).arrAt 8 cfg0.N = (show FVec Ideal S32x512 .f32 from k0_pay1 (F := Ideal) (k0_pay10 (aD m c))) := by
  refine (dat0 (V0 m ρ) c).arrAt_eq_of_after_last 8 t0_0 (by decide +kernel) _ fun j => ?_
  blk_simp
  rw [after0_8, in0, in1, in2]
  frame_out

/-! ## The second kernel's windows -/

/-- The points' block and the two results' move with the grid's point; the tables stay. -/
theorem idx1 : ∀ t : Fin cfg1.N, win1_0.index t = ![t.val, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![t.val, 0] ∧ win1_8.index t = ![t.val] :=
  (by decide +kernel : ∀ t : Fin grid1.N, _)

theorem tab_edges (t : Fin cfg1.N) : iblk1 (V1 m ρ) c 1 t = (dat0 (V0 m ρ) c).arrAt 3 cfg0.N := by
  rw [← W1_arr]
  blk_ext! [iblk1, V1, idx1 t]
theorem tab_widths (t : Fin cfg1.N) : iblk1 (V1 m ρ) c 2 t = (dat0 (V0 m ρ) c).arrAt 4 cfg0.N := by
  rw [← W1_arr]
  blk_ext! [iblk1, V1, idx1 t]
theorem tab_low (t : Fin cfg1.N) : iblk1 (V1 m ρ) c 3 t = (dat0 (V0 m ρ) c).arrAt 5 cfg0.N := by
  rw [← W1_arr]
  blk_ext! [iblk1, V1, idx1 t]
theorem tab_slope (t : Fin cfg1.N) : iblk1 (V1 m ρ) c 4 t = (dat0 (V0 m ρ) c).arrAt 6 cfg0.N := by
  rw [← W1_arr]
  blk_ext! [iblk1, V1, idx1 t]
theorem tab_left (t : Fin cfg1.N) : iblk1 (V1 m ρ) c 5 t = (dat0 (V0 m ρ) c).arrAt 7 cfg0.N := by
  rw [← W1_arr]
  blk_ext! [iblk1, V1, idx1 t]
theorem tab_right (t : Fin cfg1.N) : iblk1 (V1 m ρ) c 6 t = (dat0 (V0 m ρ) c).arrAt 8 cfg0.N := by
  rw [← W1_arr]
  blk_ext! [iblk1, V1, idx1 t]

theorem blkX (t : Fin cfg1.N) (r : Fin 256) (l : Fin 512) (i : Fin 4096) (hi : (i : ℕ) = t * 256 + r) :
    iblk1 (V1 m ρ) c 0 t (ix2 r l) = aX m c (ix2 i l) := by
  have h : V1 m ρ c main_arg0 = m ((c : Thread nD τ).loc main_arg0) := W1_args m ρ c main_arg0 (by decide)
  rw [aX, ← h]
  blk_ext! [iblk1, idx1 t]

theorem tab_eq (t : Vec Ideal S32x512 .f32) : tab t = t := by
  unfold tab
  rw [View.ld_unit_zero off0]
  funext j
  idx_vars j
  pointwise

variable (uw uh : Fin 512 → Fin 32 → ℝ) (ud : Fin 512 → Fin 31 → ℝ)

/-- The three parameter arrays hold real numbers. -/
structure Params : Prop where
  w : ∀ f k, aW m c (ix2 f k) = ((uw f k : ℝ) : EReal)
  h : ∀ f k, aH m c (ix2 f k) = ((uh f k : ℝ) : EReal)
  d : ∀ f k, aD m c (ix2 f k) = ((ud f k : ℝ) : EReal)

variable {m c uw uh ud}

/-- The tables the second kernel finds are the spline's. -/
theorem tables (H : Params m c uw uh ud) (t : Fin cfg1.N) :
    Tables (tab (iblk1 (V1 m ρ) c 1 t)) (tab (iblk1 (V1 m ρ) c 2 t)) (tab (iblk1 (V1 m ρ) c 3 t)) (tab (iblk1 (V1 m ρ) c 4 t))
      (tab (iblk1 (V1 m ρ) c 5 t)) (tab (iblk1 (V1 m ρ) c 6 t)) uw uh ud := by
  rw [tab_edges, tab_widths, tab_low, tab_slope, tab_left, tab_right, arr_edges, arr_widths, arr_low, arr_slope, arr_left, arr_right]
  simp only [tab_eq]
  exact ⟨edges_at _ _ H.w, binw_at _ _ H.w, low_at _ _ H.h, slope_at _ _ _ _ H.w H.h, left_at _ _ H.d, right_at _ _ H.d⟩

/-- The first result at an index. -/
def resOut (x : FVec Ideal S4096x512 .f32) (uw uh : Fin 512 → Fin 32 → ℝ) (ud : Fin 512 → Fin 31 → ℝ) (i : Fin 4096) (l : Fin 512) : EReal :=
  choose (x (ix2 i l)) ((valOut (uw l) (uh l) (ud l) (cl (x (ix2 i l))) : ℝ) : EReal) (x (ix2 i l))

/-- The second result at an index. -/
def resLad (x : FVec Ideal S4096x512 .f32) (uw uh : Fin 512 → Fin 32 → ℝ) (ud : Fin 512 → Fin 31 → ℝ) (i : Fin 4096) : EReal :=
  ∑ l : Fin 512, choose (x (ix2 i l)) (valLad (uw l) (uh l) (ud l) (cl (x (ix2 i l)))) ((0 : ℝ) : EReal)

theorem block1_res (H : Params m c uw uh ud) (t : Fin cfg1.N) (r : Fin 256) (l : Fin 512) (i : Fin 4096) (hi : (i : ℕ) = t * 256 + r) :
    block1 (iblk1 (V1 m ρ) c 0 t) (tab (iblk1 (V1 m ρ) c 1 t)) (tab (iblk1 (V1 m ρ) c 2 t)) (tab (iblk1 (V1 m ρ) c 3 t))
      (tab (iblk1 (V1 m ρ) c 4 t)) (tab (iblk1 (V1 m ρ) c 5 t)) (tab (iblk1 (V1 m ρ) c 6 t)) (ix2 r l) = resOut (aX m c) uw uh ud i l := by
  rw [block1_at (tables ρ H t), blkX m ρ c t r l i hi]; rfl

theorem block2_res (H : Params m c uw uh ud) (t : Fin cfg1.N) (r : Fin 256) (i : Fin 4096) (hi : (i : ℕ) = t * 256 + r) :
    block2 (iblk1 (V1 m ρ) c 0 t) (tab (iblk1 (V1 m ρ) c 1 t)) (tab (iblk1 (V1 m ρ) c 2 t))
      (tab (iblk1 (V1 m ρ) c 4 t)) (tab (iblk1 (V1 m ρ) c 5 t)) (tab (iblk1 (V1 m ρ) c 6 t)) (ix1 r) = resLad (aX m c) uw uh ud i := by
  rw [block2_at (tables ρ H t)]
  exact Finset.sum_congr rfl fun l _ => by rw [blkX m ρ c t r l i hi]

theorem final1 (H : Params m c uw uh ud) : (dat1 (V1 m ρ) c).arrAt 7 cfg1.N
    = (show FVec Ideal S4096x512 .f32 from fun i => resOut (aX m c) uw uh ud (i 0) (i 1)) := by
  refine (dat1 (V1 m ρ) c).arrAt_eq_of_covers 7 _ (by decide +kernel) fun t _ y => ?_
  blk_simp
  rw [after1_7, stored1]
  frame_out
  have e : y = ix2 (show Fin 256 from y 0) (show Fin 512 from y 1) := funext fun a => by fin_cases a <;> rfl
  have h0 : ((((View.whole main_v0_0).slice (win1_7.rect t)).emb y 0 : Fin 4096) : ℕ) = t * 256 + (y 0 : ℕ) := by blk_simp [idx1 t]
  have h1 : (((View.whole main_v0_0).slice (win1_7.rect t)).emb y 1 : Fin 512) = y 1 := Fin.ext (by blk_simp [idx1 t])
  have h := block1_res ρ H t (y 0) (y 1) _ h0
  rw [← e] at h
  rw [h, h1]

theorem final2 (H : Params m c uw uh ud) : (dat1 (V1 m ρ) c).arrAt 8 cfg1.N
    = (show FVec Ideal S4096 .f32 from fun i => resLad (aX m c) uw uh ud (i 0)) := by
  refine (dat1 (V1 m ρ) c).arrAt_eq_of_covers 8 _ (by decide +kernel) fun t _ y => ?_
  blk_simp
  rw [after1_8, stored2]
  frame_out
  have e : y = ix1 (show Fin 256 from y 0) := funext fun a => by fin_cases a; rfl
  have h0 : ((((View.whole main_v0_1).slice (win1_8.rect t)).emb y 0 : Fin 4096) : ℕ) = t * 256 + (y 0 : ℕ) := by blk_simp [idx1 t]
  have h := block2_res ρ H t (y 0) _ h0
  rw [← e] at h
  exact h

end Cert.KernelIdeal.Spline

end
-- ==== Proof.KernelRun.lean ====
/- The kernel's run with its results: every execution ends with the two result arrays at what the second kernel's
   write-backs leave, the arguments as launched. -/
module

public import proofs.«01_k».proof.Proof.Arrays

@[expose] public section

set_option maxRecDepth 16384

noncomputable section

namespace Cert.KernelIdeal.Spline

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- The run: the launch over the two regions, each buffer read at the end. -/
theorem run : θ_run defs (onTc (τ := τ) (main (F := F))) ⟨m, fun _ => 0, ρ⟩ (fun r => ∀ c : Dev nD,
      r.2.mem ((c.tc : Thread nD τ).loc main_v0_0) = (dat1 (V1 m ρ) c).arrAt 7 cfg1.N
      ∧ r.2.mem ((c.tc : Thread nD τ).loc main_v0_1) = (dat1 (V1 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v0_0 (by decide))).trans (W2_arr m ρ c 7),
       (h c _ (mem_uc main_v0_1 (by decide))).trans (W2_arr m ρ c 8),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Spline

end
-- ==== Proof.RefForms.lean ====
/- The reference's arrays as functions of its arguments: the knots of one parameter array, the derivatives, the bins and
   the rows picked by them. -/
module

public import proofs.«01_k».proof.Proof.Gen.ReferenceIdeal.Run
public import proofs.«01_k».proof.Proof.Scalar
public import Idealize.ShloMosaic.Lib.Pointwise

@[expose] public section

set_option maxRecDepth 16384

noncomputable section

namespace Cert.ReferenceIdeal.Spline

open Idealize.ShloMosaic Idealize.ShloMosaic.TcCoe Idealize.SL.Sem
open Cert.ReferenceIdeal Cert.ReferenceIdeal.Gen Cert.ReferenceIdeal.Value Cert.Spline
open Idealize.ShloMosaic.StableHlo (launchContents)

section Forms

variable {F : FTy → Type} [FloatOps F]

/-- The exponentials of a row's entries less the row's greatest. -/
def exps (v : FVec F S512x32 .f32) : FVec F S512x32 .f32 :=
  Host.exp (subf v (broadcastInDim S512x32 ![0, 1] bcast_S512x1_S512x32_0_1 (broadcastInDim S512x1 ![0] bcast_S512_S512x1_0
    (maximumf (broadcastInDim S512 ![] bcast_S_S512 (constant S_ .f32 0xFF800000#32))
      (Host.reduce FloatOps.maximumf v (constant S_ .f32 0xFF800000#32) reducesTo_S512x32_S512_d1 h_S_)))))

/-- The bins' shares of the whole range. -/
def shares (v : FVec F S512x32 .f32) : FVec F S512x32 .f32 :=
  addf (broadcastInDim S512x32 ![] bcast_S_S512x32 (constant S_ .f32 0x3A83126F#32))
    (mulf (broadcastInDim S512x32 ![] bcast_S_S512x32 (constant S_ .f32 0x3F77CED9#32))
      (Host.divf (exps v) (broadcastInDim S512x32 ![0, 1] bcast_S512x1_S512x32_0_1 (broadcastInDim S512x1 ![0] bcast_S512_S512x1_0
        (Host.reduceAdd (exps v) (constant S_ .f32 0x00000000#32) reducesTo_S512x32_S512_d1 h_S_)))))

/-- The shares' running sums. -/
def sums (w : FVec F S512x32 .f32) : FVec F S512x32 .f32 :=
  Host.reduceWindowAdd ![1, 32] ![1, 1] ![0, 31] ![0, 0] w (broadcastInDim S_ ![] bcast_S_S_ (constant S_ .f32 0x00000000#32))
    reduceWindows_S512x32_S512x32_w1s1p0_0_w32s1p31_0 h_S_

/-- The running sums, a zero before them, stretched over the range. -/
def spots (w : FVec F S512x32 .f32) : FVec F S512x33 .f32 :=
  addf (mulf (broadcastInDim S512x33 ![] bcast_S_S512x33 (constant S_ .f32 0x40C00000#32))
      (pad S512x33 ![0, 1] ![0, 0] ![0, 0] (sums w) (sitofp .f32 (constantI S_ 32 0#32)) pads_S512x32_S512x33_000_100 h_S_))
    (broadcastInDim S512x33 ![] bcast_S_S512x33 (constant S_ .f32 0xC0400000#32))

/-- One column combined with one number. -/
def column (f : F .f32 → F .f32 → F .f32) (x : FVec F S512x33 .f32) (k w : BitVec 32) : FVec F S512x33 .f32 :=
  Host.scatter scatter_S512x33_S1_S512_0_1_1_0 f x (broadcastInDim S1 ![] bcast_S_S1 (constantI S_ 32 k))
    (broadcastInDim S512 ![] bcast_S_S512 (constant S_ .f32 w))

/-- The knots. -/
def knots (v : FVec F S512x32 .f32) : FVec F S512x33 .f32 :=
  column (fun _ b => b) (column (fun _ b => b) (spots (shares v)) 0#32 0xC0400000#32) 32#32 0x40400000#32

/-- Each knot's step to the next. -/
def steps (k : FVec F S512x33 .f32) : FVec F S512x32 .f32 :=
  subf (extractStridedSlice S512x32 ![0, 1] k slices_S512x33_S512x32_0_1) (extractStridedSlice S512x32 ![0, 0] k slices_S512x33_S512x32_0_0)

/-- The parameters with the boundary's constant on both sides, and the derivatives from them. -/
def framed (d : FVec F S512x31 .f32) : FVec F S512x33 .f32 :=
  pad S512x33 ![0, 1] ![0, 1] ![0, 0] d (Host.log (subf (Host.exp (subf (constant S_ .f32 0x3F800000#32) (constant S_ .f32 0x3A83126F#32))) (constant S_ .f32 0x3F800000#32))) pads_S512x31_S512x33_000_110 h_S_

/-- The zero the derivatives are compared with. -/
def zeros : FVec F S512x33 .f32 := broadcastInDim S512x33 ![] bcast_S_S512x33 (constant S_ .f32 0x00000000#32)

def derivs (p : FVec F S512x33 .f32) : FVec F S512x33 .f32 :=
  addf (broadcastInDim S512x33 ![] bcast_S_S512x33 (constant S_ .f32 0x3A83126F#32))
    (select (cmpf .une (subf p zeros) (subf p zeros)) (addf p zeros)
      (addf (maximumf p zeros) (Host.log1p (Host.exp (Host.negf (Host.absf (subf p zeros)))))))

/-- Where a point lies between the two ends, and the point clipped to them. -/
def inside (x : FVec F S4096x512 .f32) : IVec S4096x512 1 :=
  andi (cmpf .oge x (broadcastInDim S4096x512 ![] bcast_S_S4096x512 (constant S_ .f32 0xC0400000#32)))
    (cmpf .ole x (broadcastInDim S4096x512 ![] bcast_S_S4096x512 (constant S_ .f32 0x40400000#32)))
def clipped (x : FVec F S4096x512 .f32) : FVec F S4096x512 .f32 :=
  minimumf (broadcastInDim S4096x512 ![] bcast_S_S4096x512 (id (constant S_ .f32 0x40400000#32)))
    (maximumf (broadcastInDim S4096x512 ![] bcast_S_S4096x512 (id (constant S_ .f32 0xC0400000#32))) x)

/-- Which edges a point has reached, as words. -/
def marks (xc : FVec F S4096x512 .f32) (k : FVec F S512x33 .f32) : IVec S4096x512x33 32 :=
  extui 32 (cmpf .oge (broadcastInDim S4096x512x33 ![0, 1, 2] bcast_S4096x512x1_S4096x512x33_0_1_2 (broadcastInDim S4096x512x1 ![0, 1] bcast_S4096x512_S4096x512x1_0_1 xc))
    (broadcastInDim S4096x512x33 ![0, 1, 2] bcast_S1x512x33_S4096x512x33_0_1_2 (broadcastInDim S1x512x33 ![1, 2] bcast_S512x33_S1x512x33_1_2 k))) natLt_1_32

/-- How many edges a point has reached. -/
def count (xc : FVec F S4096x512 .f32) (k : FVec F S512x33 .f32) : IVec S4096x512 32 :=
  Host.reduce IntOp.addi (marks xc k) (constantI S_ 32 0#32) reducesTo_S4096x512x33_S4096x512_d2 h_S_

/-- A count as a bin's number. -/
def clampBin (n : IVec S4096x512 32) : IVec S4096x512 32 :=
  minsi (broadcastInDim S4096x512 ![] bcast_S_S4096x512 (id (constantI S_ 32 31#32)))
    (maxsi (broadcastInDim S4096x512 ![] bcast_S_S4096x512 (id (constantI S_ 32 0#32)))
      (subi n (broadcastInDim S4096x512 ![] bcast_S_S4096x512 (constantI S_ 32 1#32))))

/-- Every point's bin. -/
def bins (x : FVec F S4096x512 .f32) (v : FVec F S512x32 .f32) : IVec S4096x512 32 :=
  clampBin (count (clipped x) (column FloatOps.addf (knots v) 32#32 0x358637BD#32))

/-- Every column's number, as a row. -/
def columns : IVec S1x512 32 := broadcastInDim S1x512 ![1] bcast_S512_S1x512_1 (iotaInDim S512 32 0)

/-- The pairs of a column's number and a bin's, a negative one counted from the end. -/
def pairs (n : BitVec 32) (b : IVec S4096x512 32) : IVec S4096x512x2 32 :=
  concatenate S4096x512x2 2 [⟨S4096x512x1, (broadcastInDim S4096x512x1 ![0, 1] bcast_S4096x512_S4096x512x1_0_1 (broadcastInDim S4096x512 ![0, 1] bcast_S1x512_S4096x512_0_1
      (select (cmpi .slt columns (broadcastInDim S1x512 ![] bcast_S_S1x512 (constantI S_ 32 0#32))) (addi columns (broadcastInDim S1x512 ![] bcast_S_S1x512 (constantI S_ 32 512#32))) columns)))⟩,
    ⟨S4096x512x1, (broadcastInDim S4096x512x1 ![0, 1] bcast_S4096x512_S4096x512x1_0_1
      (select (cmpi .slt b (broadcastInDim S4096x512 ![] bcast_S_S4096x512 (constantI S_ 32 0#32))) (addi b (broadcastInDim S4096x512 ![] bcast_S_S4096x512 (constantI S_ 32 n))) b))⟩]
    concatenates_S4096x512x1_S4096x512x1_S4096x512x2_d2

/-- The entry of a table at a point's column and bin. -/
def pick32 (t : FVec F S512x32 .f32) (b : IVec S4096x512 32) : FVec F S4096x512 .f32 :=
  Host.gather gather_S512x32_S4096x512x2_S4096x512_n_01_n_n_01_2_11 t (pairs 32#32 b)
def pick33 (t : FVec F S512x33 .f32) (b : IVec S4096x512 32) : FVec F S4096x512 .f32 :=
  Host.gather gather_S512x33_S4096x512x2_S4096x512_n_01_n_n_01_2_11 t (pairs 33#32 b)

/-- The later 32 of 33 columns. -/
def later (t : FVec F S512x33 .f32) : FVec F S512x32 .f32 := extractStridedSlice S512x32 ![0, 1] t slices_S512x33_S512x32_0_1

/-- One number everywhere. -/
def lit (w : BitVec 32) : FVec F S4096x512 .f32 := broadcastInDim S4096x512 ![] bcast_S_S4096x512 (constant S_ .f32 w)

/-- The place in the bin, and its product with what is left of the bin. -/
def place (xc e w : FVec F S4096x512 .f32) : FVec F S4096x512 .f32 := Host.divf (subf xc e) w
def mid (p : FVec F S4096x512 .f32) : FVec F S4096x512 .f32 := mulf p (subf (lit 0x3F800000#32) p)

/-- The denominator, the value and the derivative's logarithm. -/
def denom (dl a b p : FVec F S4096x512 .f32) : FVec F S4096x512 .f32 :=
  addf dl (mulf (subf (addf a b) (mulf (lit 0x40000000#32) dl)) (mid p))
def value (ch h dl a b p : FVec F S4096x512 .f32) : FVec F S4096x512 .f32 :=
  addf ch (Host.divf (mulf h (addf (mulf dl (mulf p p)) (mulf a (mid p)))) (denom dl a b p))
def logder (dl a b p : FVec F S4096x512 .f32) : FVec F S4096x512 .f32 :=
  subf (Host.log (mulf (mulf dl dl) (addf (addf (mulf b (mulf p p)) (mulf (mulf (lit 0x40000000#32) dl) (mid p)))
      (mulf a (mulf (subf (lit 0x3F800000#32) p) (subf (lit 0x3F800000#32) p))))))
    (mulf (lit 0x40000000#32) (Host.log (denom dl a b p)))

/-- The two results over the picked rows. -/
def out1 (x ch h dl a b p : FVec F S4096x512 .f32) : FVec F S4096x512 .f32 := select (inside x) (value ch h dl a b p) x
def out2 (x dl a b p : FVec F S4096x512 .f32) : FVec F S4096 .f32 :=
  Host.reduceAdd (select (inside x) (logder dl a b p) (broadcastInDim S4096x512 ![] bcast_S_S4096x512 (id (constant S_ .f32 0x00000000#32))))
    (constant S_ .f32 0x00000000#32) reducesTo_S4096x512_S4096_d1 h_S_

/-! The picked rows, from the arguments. -/

variable (x : FVec F S4096x512 .f32) (uw uh : FVec F S512x32 .f32) (ud : FVec F S512x31 .f32)

def rSlope : FVec F S4096x512 .f32 := pick32 (Host.divf (steps (knots uh)) (steps (knots uw))) (bins x uw)
def rLeft : FVec F S4096x512 .f32 := pick33 (derivs (framed ud)) (bins x uw)
def rRight : FVec F S4096x512 .f32 := pick32 (later (derivs (framed ud))) (bins x uw)
def rPlace : FVec F S4096x512 .f32 := place (clipped x) (pick33 (knots uw) (bins x uw)) (pick32 (steps (knots uw)) (bins x uw))
def rLow : FVec F S4096x512 .f32 := pick33 (knots uh) (bins x uw)
def rStep : FVec F S4096x512 .f32 := pick32 (steps (knots uh)) (bins x uw)

variable (V : Valuation τ sig (Elt F))

abbrev vX : FVec F S4096x512 .f32 := V (Proc.devRef .tc main_arg0)
abbrev vW : FVec F S512x32 .f32 := V (Proc.devRef .tc main_arg1)
abbrev vH : FVec F S512x32 .f32 := V (Proc.devRef .tc main_arg2)
abbrev vD : FVec F S512x31 .f32 := V (Proc.devRef .tc main_arg3)

theorem v9_eq : res_main_v9 V = inside (vX V) := rfl
theorem v37_eq : res_main_v37 V = knots (vW V) := rfl
theorem v70_eq : res_main_v70 V = knots (vH V) := rfl
theorem v86_eq : res_main_v86 V = bins (vX V) (vW V) := rfl
theorem v149_eq : res_main_v149 V = rSlope (vX V) (vW V) (vH V) := rfl
theorem v164_eq : res_main_v164 V = rLeft (vX V) (vW V) (vD V) := rfl
theorem v180_eq : res_main_v180 V = rRight (vX V) (vW V) (vD V) := rfl
theorem v197_eq : res_main_v197 V = rPlace (vX V) (vW V) := rfl

variable (m : (ℓ : Loc nD τ sig) → Buf (Elt F) ℓ) (ρ : Dev nD → PrngReg)

/-- The reference's run over the picked rows. -/
theorem runForms :
    θ_run defs (onTc (τ := τ) (main (F := F))) ⟨m, fun _ => 0, ρ⟩ fun r => ∀ c : Dev nD,
      r.2.mem ((c.tc : Thread nD τ).loc main_v232)
        = (let L := launchContents m c
          out1 (vX L) (rLow (vX L) (vW L) (vH L)) (rStep (vX L) (vW L) (vH L)) (rSlope (vX L) (vW L) (vH L))
            (rLeft (vX L) (vW L) (vD L)) (rRight (vX L) (vW L) (vD L)) (rPlace (vX L) (vW L)))
      ∧ r.2.mem ((c.tc : Thread nD τ).loc main_v234)
        = (let L := launchContents m c
          out2 (vX L) (rSlope (vX L) (vW L) (vH L))
            (rLeft (vX L) (vW L) (vD L)) (rRight (vX L) (vW L) (vD L)) (rPlace (vX L) (vW L)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2.1, (h c).2.2⟩) (run m ρ)

end Forms

end Cert.ReferenceIdeal.Spline

end
-- ==== Proof.RefTables.lean ====
/- The reference's tables at an index, over the reals: the knots, their steps and the derivatives at the knots. -/
module

public import proofs.«01_k».proof.Proof.RefForms
public import Idealize.ShloMosaic.Lib.Routing.OpsOne
public import Idealize.ShloMosaic.Lib.Routing.OpsPair

@[expose] public section

set_option maxRecDepth 16384

noncomputable section

namespace Cert.ReferenceIdeal.Spline

open Idealize.ShloMosaic Idealize.ShloMosaic.TcCoe Idealize.SL.Sem Idealize.ShloMosaic.Routing
open Cert.ReferenceIdeal Cert.ReferenceIdeal.Gen Cert.Spline

/-! ## One column combined with one number -/

/-- A fold that no element takes part in. -/
theorem fold_none {ι α : Type} (P : ι → Prop) [DecidablePred P] (f : α → α → α) (g : ι → α) (l : List ι) (x : α) (h : ∀ n ∈ l, ¬ P n) :
    l.foldl (fun a n => if P n then f a (g n) else a) x = x := by
  induction l with
  | nil => rfl
  | cons b t ih =>
    rw [List.foldl_cons, if_neg (h b (List.mem_cons_self ..))]
    exact ih fun n hn => h n (List.mem_cons_of_mem _ hn)

/-- A fold that one element takes part in. -/
theorem fold_one {ι α : Type} (P : ι → Prop) [DecidablePred P] (f : α → α → α) (g : ι → α) (l : List ι) (hl : l.Nodup) (x : α) (n₀ : ι) (h₀ : n₀ ∈ l)
    (h : ∀ n, P n ↔ n = n₀) : l.foldl (fun a n => if P n then f a (g n) else a) x = f x (g n₀) := by
  induction l with
  | nil => exact nomatch h₀
  | cons b t ih =>
    rw [List.nodup_cons] at hl
    rw [List.foldl_cons]
    by_cases hb : b = n₀
    · subst hb
      rw [if_pos ((h b).2 rfl)]
      exact fold_none P f g t _ fun n hn q => hl.1 ((h n).1 q ▸ hn)
    · rw [if_neg fun q => hb ((h b).1 q)]
      exact ih hl.2 ((List.mem_cons.1 h₀).resolve_left fun q => hb q.symm)

/-- Update `j` lands in its own row, in the column the word names. -/
theorem lands (j : S512.Idx) (idx : IVec S1 32) (k : BitVec 32) (hk : ∀ i, idx i = k) (r : Fin 512) (c : Fin 33) :
    scatter_S512x33_S1_S512_0_1_1_0.resultIdx? j idx = some (ix2 r c) ↔ (j 0 : ℕ) = r ∧ k.toInt = c := by
  have hw0 : scatter_S512x33_S1_S512_0_1_1_0.window j 0 = (j 0 : ℕ) := rfl
  have hw1 : scatter_S512x33_S1_S512_0_1_1_0.window j 1 = 0 := rfl
  have hs0 : scatter_S512x33_S1_S512_0_1_1_0.start j idx 0 = 0 := rfl
  have hs1 : scatter_S512x33_S1_S512_0_1_1_0.start j idx 1 = k.toInt := congrArg BitVec.toInt (hk _)
  refine (resultIdx?_ix2 _ j idx r c).trans ?_
  rw [hw0, hw1, hs0, hs1]
  omega

variable (f : EReal → EReal → EReal) (x : FVec Ideal S512x33 .f32) (k w : BitVec 32) (r : Fin 512) (c : Fin 33)

theorem column_hit (h : k.toInt = (c : ℕ)) : column f x k w (ix2 r c) = f (x (ix2 r c)) (Ideal.ofBits .f32 w) := by
  unfold column
  rw [scatter_at]
  refine (fold_one _ f _ _ (List.nodup_finRange _) _ (S512.rowMajor (ix1 r)) (List.mem_finRange _) fun n => ?_).trans ?_
  · refine (lands _ _ k (fun _ => rfl) r c).trans ?_
    constructor
    · rintro ⟨h1, -⟩
      rw [← S512.rowMajor.symm_apply_eq]
      exact funext fun a => by fin_cases a; exact Fin.ext h1
    · rintro rfl
      rw [Equiv.symm_apply_apply]
      exact ⟨rfl, h⟩
  · rfl

theorem column_miss (h : k.toInt ≠ (c : ℕ)) : column f x k w (ix2 r c) = x (ix2 r c) := by
  unfold column
  rw [scatter_at]
  refine fold_none _ f _ _ _ fun n _ q => ?_
  exact h ((lands _ _ k (fun _ => rfl) r c).1 q).2

/-! ## The knots -/

variable (v : FVec Ideal S512x32 .f32) (u : Fin 512 → Fin 32 → ℝ)

theorem shares_at (hv : ∀ f k, v (ix2 f k) = ((u f k : ℝ) : EReal)) (f : Fin 512) (k : Fin 32) :
    shares v (ix2 f k) = ((wid (u f) k : ℝ) : EReal) := by
  pointwise [shares, exps, hv, bits_c0, bits_c1, bits_bot, fold_max, bits_0]
  simp only [max_eq_right bot_le, ← EReal.coe_sub, exp_real, sum_real]
  rw [show (∑ j, Real.exp (u f j - mx (u f))) = den (u f) from rfl, ← EReal.coe_add, zero_add, div_real _ (den_pos _).ne',
    ← EReal.coe_mul, ← EReal.coe_add, wid, dif_pos k.isLt]

/-- A fold that adds is a sum. -/
theorem fold_add (n : ℕ) (g : Fin n → EReal) (x : EReal) :
    (List.finRange n).foldl (fun r i => r + g i) x = x + ∑ i, g i := by
  rw [Fin.sum_univ_def]
  generalize List.finRange n = l
  induction l generalizing x with
  | nil => rw [List.map_nil, List.sum_nil, add_zero]; rfl
  | cons b t ih => rw [List.foldl_cons, ih, List.map_cons, List.sum_cons, add_assoc]

/-- The window's positions are its columns. -/
theorem window_numel : (shape2 1 32).numel = 32 := numel2 32

/-- The running sums over real entries. -/
theorem sums_at (W : ℕ → ℝ) (w : FVec Ideal S512x32 .f32) (f : Fin 512) (hw : ∀ k : Fin 32, w (ix2 f k) = ((W k : ℝ) : EReal)) (k : Fin 32) :
    sums w (ix2 f k) = ((∑ j ∈ Finset.range (k + 1), W j : ℝ) : EReal) := by
  have hk := k.isLt
  rw [← sum_padded W k.isLt, ← Fin.sum_univ_eq_sum_range (fun n : ℕ => if 31 ≤ (k : ℕ) + n then W (k + n - 31) else 0), ← sum_real]
  unfold sums Host.reduceWindowAdd
  show Ideal.hostReduceWindowAdd _ _ _ _ _ _ _ _ = _
  unfold Ideal.hostReduceWindowAdd Host.reduceWindow
  dsimp only
  rw [fold_add]
  have hz : broadcastInDim (α := Ideal .f32) S_ ![] bcast_S_S_ (constant (F := Ideal) S_ FTy.f32 0#32) (Shape.Idx.first h_S_) = ((0 : ℝ) : EReal) := bits_0
  rw [hz]
  refine (zero_add _).trans ?_
  refine Fintype.sum_equiv (finCongr window_numel) _ _ (fun n => ?_)
  have hc : (shape2 1 32).rowMajor.symm n = ix2 (0 : Fin 1) (n.cast window_numel) := symm2 n
  have h0 : ((shape2 1 32).rowMajor.symm n 0 : ℕ) = 0 := congrArg (fun i => (i 0 : ℕ)) hc
  have h1 : ((shape2 1 32).rowMajor.symm n 1 : ℕ) = (n : ℕ) := congrArg (fun i => (i 1 : ℕ)) hc
  have hn : (n : ℕ) < 32 := lt_of_lt_of_eq n.isLt window_numel
  have hv : (finCongr window_numel n : ℕ) = n := rfl
  have hf := f.isLt
  rw [hv]
  by_cases h : 31 ≤ (k : ℕ) + n
  · have hj : (k : ℕ) + n - 31 < 32 := by omega
    rw [if_pos h, dif_pos (by
      intro a
      fin_cases a
      · show 0 ≤ (f : ℕ) * 1 + ((shape2 1 32).rowMajor.symm n 0 : ℕ) ∧ (f : ℕ) * 1 + ((shape2 1 32).rowMajor.symm n 0 : ℕ) - 0 < 512
        omega
      · show 31 ≤ (k : ℕ) * 1 + ((shape2 1 32).rowMajor.symm n 1 : ℕ) ∧ (k : ℕ) * 1 + ((shape2 1 32).rowMajor.symm n 1 : ℕ) - 31 < 32
        omega)]
    refine Eq.trans (congrArg w ?_) (hw ⟨(k : ℕ) + n - 31, hj⟩)
    funext a
    fin_cases a
    · refine Fin.ext ?_
      show (f : ℕ) * 1 + ((shape2 1 32).rowMajor.symm n 0 : ℕ) - 0 = f
      omega
    · refine Fin.ext ?_
      show (k : ℕ) * 1 + ((shape2 1 32).rowMajor.symm n 1 : ℕ) - 31 = (k : ℕ) + n - 31
      omega
  · rw [if_neg h, dif_neg]
    intro q
    have q1 : 31 ≤ (k : ℕ) * 1 + ((shape2 1 32).rowMajor.symm n 1 : ℕ) := (q 1).1
    omega

/-- The knots before the ends are set. -/
theorem spots_at (hv : ∀ f k, v (ix2 f k) = ((u f k : ℝ) : EReal)) (f : Fin 512) (k : Fin 33) :
    spots (shares v) (ix2 f k) = ((6 * cum (u f) k - 3 : ℝ) : EReal) := by
  have hs : ∀ k : Fin 32, sums (shares v) (ix2 f k) = ((cum (u f) (k + 1) : ℝ) : EReal) := fun k =>
    sums_at (wid (u f)) (shares v) f (fun k => shares_at v u hv f k) k
  pointwise [spots, hs]
  rw [bits_6, bits_m3]
  have hk := k.isLt
  split
  · next h =>
    rw [show (k : ℕ) - 1 + 1 = k by omega, ← EReal.coe_mul, ← EReal.coe_add]; rfl
  · next h =>
    rw [show FloatOps.sitofp (F := Ideal) .f32 0#32 = ((0 : ℝ) : EReal) from congrArg (fun r : ℝ => (r : EReal)) Int.cast_zero, ← EReal.coe_mul, ← EReal.coe_add,
      show (k : ℕ) = 0 by omega, cum, Finset.sum_range_zero]; rfl

/-- The knots. -/
theorem knots_at (hv : ∀ f k, v (ix2 f k) = ((u f k : ℝ) : EReal)) (f : Fin 512) (k : Fin 33) :
    knots v (ix2 f k) = ((loc (u f) k : ℝ) : EReal) := by
  have hk := k.isLt
  unfold knots
  by_cases h32 : (k : ℕ) = 32
  · rw [column_hit _ _ _ _ _ _ (by rw [h32]; rfl), bits_3, h32, loc_last]
  · rw [column_miss _ _ _ _ _ _ fun q => h32 (by have q : (32 : ℤ) = (k : ℕ) := q; omega)]
    by_cases h0 : (k : ℕ) = 0
    · rw [column_hit _ _ _ _ _ _ (by rw [h0]; rfl), bits_m3, h0, loc_zero]
    · rw [column_miss _ _ _ _ _ _ fun q => h0 (by have q : (0 : ℤ) = (k : ℕ) := q; omega), spots_at v u hv, loc_mid _ (by omega)]

/-- The knots' steps. -/
theorem steps_at (hv : ∀ f k, v (ix2 f k) = ((u f k : ℝ) : EReal)) (f : Fin 512) (k : Fin 32) :
    steps (knots v) (ix2 f k) = ((loc (u f) (k + 1) - loc (u f) k : ℝ) : EReal) := by
  have h := knots_at v u hv
  pointwise [steps, h]
  rw [Nat.add_comm, EReal.coe_sub]

/-- The knots the bins are searched in: the last one moved out of reach. -/
theorem edges_at (hv : ∀ f k, v (ix2 f k) = ((u f k : ℝ) : EReal)) (f : Fin 512) (k : Fin 33) :
    ∃ e : ℝ, column FloatOps.addf (knots v) 32#32 0x358637BD#32 (ix2 f k) = (e : EReal) ∧ ((k : ℕ) < 32 → e = loc (u f) k) ∧ ((k : ℕ) = 32 → 3 < e) := by
  have hk := k.isLt
  by_cases h32 : (k : ℕ) = 32
  · refine ⟨3 + 8796093 / 2 ^ 43, ?_, fun h => by omega, fun _ => by norm_num⟩
    rw [column_hit _ _ _ _ _ _ (by rw [h32]; rfl), knots_at v u hv, bits_eps, h32, loc_last, EReal.coe_add]; rfl
  · refine ⟨loc (u f) k, ?_, fun _ => rfl, fun h => absurd h h32⟩
    rw [column_miss _ _ _ _ _ _ fun q => h32 (by have q : (32 : ℤ) = (k : ℕ) := q; omega), knots_at v u hv]

/-! ## The derivatives -/

variable (d : FVec Ideal S512x31 .f32) (z : Fin 512 → Fin 31 → ℝ)

/-- A derivative from its parameter. -/
theorem derivs_of (p : FVec Ideal S512x33 .f32) (f : Fin 512) (k : Fin 33) (x : ℝ) (h : p (ix2 f k) = (x : EReal)) :
    derivs p (ix2 f k) = ((c0 + Real.log (1 + Real.exp x) : ℝ) : EReal) := by
  have ha : FloatOps.absf (F := Ideal) (φ := .f32) (x : EReal) = ((|x| : ℝ) : EReal) := max_real x (-x)
  pointwise [derivs, zeros, h]
  rw [if_neg (fun q => q rfl), ha, bits_c0, ← EReal.coe_neg, exp_real, log1p_real (by linarith [Real.exp_pos (-|x|)]), ← softplus_eq x]
  rw [show (0 : EReal) = ((0 : ℝ) : EReal) from rfl, max_real, ← EReal.coe_add, ← EReal.coe_add]

theorem framed_at (hd : ∀ f k, d (ix2 f k) = ((z f k : ℝ) : EReal)) (f : Fin 512) (k : Fin 33) :
    framed d (ix2 f k) = (((if h : 1 ≤ (k : ℕ) ∧ (k : ℕ) - 1 < 31 then z f ⟨k - 1, h.2⟩ else padv) : ℝ) : EReal) := by
  pointwise [framed, hd]
  rw [bits_c0, show (1 : EReal) = ((1 : ℝ) : EReal) from rfl, ← EReal.coe_sub, exp_real, ← EReal.coe_sub, log_real exp_sub_pos]
  split <;> rfl

/-- The derivatives at the knots. -/
theorem derivs_at (hd : ∀ f k, d (ix2 f k) = ((z f k : ℝ) : EReal)) (f : Fin 512) (k : Fin 33) :
    derivs (framed d) (ix2 f k) = ((dv (z f) k : ℝ) : EReal) := by
  have hk := k.isLt
  rw [derivs_of _ f k _ (framed_at d z hd f k)]
  unfold dv
  by_cases h0 : (k : ℕ) = 0
  · rw [dif_neg (by omega), if_pos h0, padv_eq]
  · rw [if_neg h0]
    by_cases h : (k : ℕ) - 1 < 31
    · rw [dif_pos ⟨by omega, h⟩, dif_pos h]
    · rw [dif_neg (by omega), dif_neg h, padv_eq]

end Cert.ReferenceIdeal.Spline

end
-- ==== Proof.RefValue.lean ====
/- The reference's results at an index, over the reals: the bins, the picked entries and the spline's value. -/
module

public import proofs.«01_k».proof.Proof.RefTables
public import Idealize.ShloMosaic.Lib.IndicatorCount

@[expose] public section

set_option maxRecDepth 16384

noncomputable section

namespace Cert.ReferenceIdeal.Spline

open Idealize.ShloMosaic Idealize.ShloMosaic.TcCoe Idealize.SL.Sem Idealize.ShloMosaic.Routing
open Cert.ReferenceIdeal Cert.ReferenceIdeal.Gen Cert.Spline

/-! ## The bins -/

variable (x : FVec Ideal S4096x512 .f32) (v : FVec Ideal S512x32 .f32) (u : Fin 512 → Fin 32 → ℝ)

theorem clipped_at (i : Fin 4096) (l : Fin 512) : clipped x (ix2 i l) = ((cl (x (ix2 i l)) : ℝ) : EReal) := by
  rw [← (cl_spec (x (ix2 i l))).1]
  pointwise [clipped, id, constant]
  rw [bits_3, bits_m3]

/-- How many edges a point has reached. -/
theorem count_at (xc : FVec Ideal S4096x512 .f32) (k : FVec Ideal S512x33 .f32) (i : Fin 4096) (l : Fin 512) :
    count xc k (ix2 i l) = BitVec.ofNat 32 (Finset.univ.filter fun e : Fin 33 => k (ix2 l e) ≤ xc (ix2 i l)).card := by
  pointwise [count, marks]
  refine (Idealize.ShloMosaic.IndicatorCount.fold_addi_setWidth_eq_card _ _).trans ?_
  congr 2
  refine Finset.filter_congr fun e _ => ?_
  exact WordCmp.ofBool_decide_eq_one_iff _

/-- A count from one to 32 less one is a bin's number. -/
theorem clampBin_at (n : IVec S4096x512 32) (i : Fin 4096) (l : Fin 512) (b : ℕ) (hb : b < 32) (h : n (ix2 i l) = BitVec.ofNat 32 (b + 1)) :
    clampBin n (ix2 i l) = BitVec.ofNat 32 b := by
  pointwise [clampBin, h]
  have h1 : IntOp.subi (BitVec.ofNat 32 (b + 1)) 1#32 = BitVec.ofNat 32 b := by
    rw [BitVec.ofNat_add]; exact BitVec.add_sub_cancel _ _
  rw [h1]
  show IntOp.minsi 31#32 (IntOp.maxsi 0#32 (BitVec.ofNat 32 b)) = _
  interval_cases b <;> rfl

/-- A point's bin. -/
theorem bins_at (hv : ∀ f k, v (ix2 f k) = ((u f k : ℝ) : EReal)) (i : Fin 4096) (l : Fin 512) :
    bins x v (ix2 i l) = BitVec.ofNat 32 (B (u l) (cl (x (ix2 i l)))) := by
  obtain ⟨-, hlo, hhi⟩ := cl_spec (x (ix2 i l))
  unfold bins
  refine clampBin_at _ i l _ (B_lt _ _) ?_
  rw [count_at, clipped_at]
  generalize cl (x (ix2 i l)) = r at hlo hhi
  congr 1
  have h := count_edges (loc (u l)) r 31 (fun k hk => (loc_lt (u l) (by omega)).le) (by rw [loc_zero]; exact hlo) 31 le_rfl
  rw [show bin (loc (u l)) r 31 = B (u l) r from rfl] at h
  rw [← h]
  refine Finset.card_bij (fun e _ => (e : ℕ)) (fun e he => ?_) (fun a _ b _ => Fin.ext) (fun n hn => ?_)
  · obtain ⟨w, hw, h1, h2⟩ := edges_at v u hv l e
    have he := (Finset.mem_filter.1 he).2
    rw [hw, EReal.coe_le_coe_iff] at he
    have he33 := e.isLt
    have hne : (e : ℕ) ≠ 32 := fun q => by linarith [h2 q]
    rw [Finset.mem_filter, Finset.mem_range, ← h1 (by omega)]
    exact ⟨by omega, he⟩
  · rw [Finset.mem_filter, Finset.mem_range] at hn
    obtain ⟨w, hw, h1, h2⟩ := edges_at v u hv l ⟨n, by omega⟩
    refine ⟨⟨n, by omega⟩, Finset.mem_filter.2 ⟨Finset.mem_univ _, ?_⟩, rfl⟩
    rw [hw, h1 (show n < 32 by omega), EReal.coe_le_coe_iff]
    exact hn.2

/-! ## The picked entries -/

theorem pairs_col (n : BitVec 32) (b : IVec S4096x512 32) (i : Fin 4096) (l : Fin 512) :
    pairs n b (ix3 i l 0) = BitVec.ofNat 32 l := by
  have hl := l.isLt
  pointwise [pairs, columns]
  refine wrap_of_lt _ _ ?_
  rw [WordCmp.toNat_ofNat_of_lt (by omega)]
  omega

theorem pairs_bin (n : BitVec 32) (b : IVec S4096x512 32) (i : Fin 4096) (l : Fin 512) (h : (b (ix2 i l)).toNat < 2 ^ 31) :
    pairs n b (ix3 i l 1) = b (ix2 i l) := by
  pointwise [pairs, columns]
  exact wrap_of_lt _ _ h

/-- Entry `(l, b)` of a table of `N` columns, for the point whose pair of words is that. -/
theorem picked {N : ℕ} (wf) (t : FVec Ideal (shape2 512 N) .f32) (idx : IVec S4096x512x2 32) (i : Fin 4096) (l : Fin 512) (b : ℕ) (hb : b < N) (hN : N ≤ 33)
    (h0 : idx (ix3 i l 0) = BitVec.ofNat 32 l) (h1 : idx (ix3 i l 1) = BitVec.ofNat 32 b) :
    Host.gather (⟨[], [0, 1], [], [], [0, 1], 2, ![1, 1], wf⟩ : GatherDims (shape2 512 N) S4096x512x2 S4096x512) t idx (ix2 i l) = t (ix2 l ⟨b, hb⟩) := by
  have hl := l.isLt
  have g0 : (idx (ix3 i l 0)).toInt.toNat = l := by rw [h0, WordCmp.toInt_ofNat_of_lt (by omega)]; omega
  have g1 : (idx (ix3 i l 1)).toInt.toNat = b := by rw [h1, WordCmp.toInt_ofNat_of_lt (by omega)]; omega
  generalize hd : (⟨[], [0, 1], [], [], [0, 1], 2, ![1, 1], wf⟩ : GatherDims (shape2 512 N) S4096x512x2 S4096x512) = d
  have c0 : d.siIdx (ix2 i l) ⟨0, by subst hd; exact Nat.zero_lt_two⟩ = ix3 i l 0 := by
    subst hd
    funext a
    fin_cases a <;> rfl
  have c1 : d.siIdx (ix2 i l) ⟨1, by subst hd; exact Nat.one_lt_two⟩ = ix3 i l 1 := by
    subst hd
    funext a
    fin_cases a <;> rfl
  have s0 : d.start (ix2 i l) idx 0 = l := by
    rw [← c0] at g0
    subst hd
    refine (show _ = min _ (512 - 1) from rfl).trans (Eq.trans (congrArg (fun n => min n (512 - 1)) g0) ?_)
    omega
  have s1 : d.start (ix2 i l) idx 1 = b := by
    rw [← c1] at g1
    subst hd
    refine (show _ = min _ (N - 1) from rfl).trans (Eq.trans (congrArg (fun n => min n (N - 1)) g1) ?_)
    omega
  refine congrArg t (funext fun a => Fin.ext ?_)
  have hb0 : d.batchCoord (ix2 i l) a = 0 := d.batchCoord_eq_zero _ _ (by subst hd; exact List.not_mem_nil)
  have ho0 : d.offCoord (ix2 i l) a = 0 := d.offCoord_eq_zero _ _ (by subst hd; rw [GatherDims.mem_sKept]; fin_cases a <;> simp)
  show d.start (ix2 i l) idx a + d.batchCoord (ix2 i l) a + d.offCoord (ix2 i l) a = _
  rw [hb0, ho0]
  fin_cases a
  · exact s0
  · exact s1

theorem pick32_at (t : FVec Ideal S512x32 .f32) (b : IVec S4096x512 32) (i : Fin 4096) (l : Fin 512) (n : ℕ) (hn : n < 32) (h : b (ix2 i l) = BitVec.ofNat 32 n) :
    pick32 t b (ix2 i l) = t (ix2 l ⟨n, hn⟩) :=
  picked _ t _ i l n hn (by omega) (pairs_col _ b i l) ((pairs_bin _ b i l (by rw [h, WordCmp.toNat_ofNat_of_lt] <;> omega)).trans h)

theorem pick33_at (t : FVec Ideal S512x33 .f32) (b : IVec S4096x512 32) (i : Fin 4096) (l : Fin 512) (n : ℕ) (hn : n < 32) (h : b (ix2 i l) = BitVec.ofNat 32 n) :
    pick33 t b (ix2 i l) = t (ix2 l ⟨n, Nat.lt_succ_of_lt hn⟩) :=
  picked _ t _ i l n (Nat.lt_succ_of_lt hn) (by omega) (pairs_col _ b i l) ((pairs_bin _ b i l (by rw [h, WordCmp.toNat_ofNat_of_lt] <;> omega)).trans h)

/-! ## The results -/

section Results

variable (uw uh : FVec Ideal S512x32 .f32) (ud : FVec Ideal S512x31 .f32)
  (w h : Fin 512 → Fin 32 → ℝ) (d : Fin 512 → Fin 31 → ℝ)
  (hw : ∀ f k, uw (ix2 f k) = ((w f k : ℝ) : EReal)) (hh : ∀ f k, uh (ix2 f k) = ((h f k : ℝ) : EReal))
  (hd : ∀ f k, ud (ix2 f k) = ((d f k : ℝ) : EReal))
  (i : Fin 4096) (l : Fin 512)

include hw

theorem rLow_at (hh : ∀ f k, uh (ix2 f k) = ((h f k : ℝ) : EReal)) :
    rLow x uw uh (ix2 i l) = ((loc (h l) (B (w l) (cl (x (ix2 i l)))) : ℝ) : EReal) :=
  (pick33_at _ _ i l _ (B_lt _ _) (bins_at x uw w hw i l)).trans (knots_at uh h hh l _)

theorem rStep_at (hh : ∀ f k, uh (ix2 f k) = ((h f k : ℝ) : EReal)) :
    rStep x uw uh (ix2 i l) = ((bh (w l) (h l) (cl (x (ix2 i l))) : ℝ) : EReal) :=
  (pick32_at _ _ i l _ (B_lt _ _) (bins_at x uw w hw i l)).trans (steps_at uh h hh l _)

theorem rSlope_at (hh : ∀ f k, uh (ix2 f k) = ((h f k : ℝ) : EReal)) :
    rSlope x uw uh (ix2 i l) = ((bd (w l) (h l) (cl (x (ix2 i l))) : ℝ) : EReal) := by
  refine (pick32_at _ _ i l _ (B_lt _ _) (bins_at x uw w hw i l)).trans ?_
  refine Eq.trans (congrArg₂ Ideal.div (steps_at uh h hh l _) (steps_at uw w hw l _)) ?_
  exact div_real _ (bw_pos (uw := w l) (x := cl (x (ix2 i l)))).ne'

theorem rPlace_at : rPlace x uw (ix2 i l) = ((th (w l) (cl (x (ix2 i l))) : ℝ) : EReal) := by
  have e : pick33 (knots uw) (bins x uw) (ix2 i l) = ((loc (w l) (B (w l) (cl (x (ix2 i l)))) : ℝ) : EReal) := rLow_at x uw uw w w hw i l hw
  have s : pick32 (steps (knots uw)) (bins x uw) (ix2 i l) = ((bw (w l) (cl (x (ix2 i l))) : ℝ) : EReal) := rStep_at x uw uw w w hw i l hw
  have c := clipped_at x i l
  pointwise [rPlace, place, e, s, c]
  rw [← EReal.coe_sub]
  exact div_real _ bw_pos.ne'

theorem rLeft_at (hd : ∀ f k, ud (ix2 f k) = ((d f k : ℝ) : EReal)) :
    rLeft x uw ud (ix2 i l) = ((dv (d l) (B (w l) (cl (x (ix2 i l)))) : ℝ) : EReal) :=
  (pick33_at _ _ i l _ (B_lt _ _) (bins_at x uw w hw i l)).trans (derivs_at ud d hd l _)

theorem rRight_at (hd : ∀ f k, ud (ix2 f k) = ((d f k : ℝ) : EReal)) :
    rRight x uw ud (ix2 i l) = ((dv (d l) (B (w l) (cl (x (ix2 i l))) + 1) : ℝ) : EReal) := by
  refine (pick32_at _ _ i l _ (B_lt _ _) (bins_at x uw w hw i l)).trans ?_
  have g := derivs_at ud d hd
  pointwise [later, g]
  rw [Nat.add_comm]

/-- The first result: the spline's value between the two ends, the point itself outside. -/
theorem out1_at (hh : ∀ f k, uh (ix2 f k) = ((h f k : ℝ) : EReal)) (hd : ∀ f k, ud (ix2 f k) = ((d f k : ℝ) : EReal)) :
    out1 x (rLow x uw uh) (rStep x uw uh) (rSlope x uw uh) (rLeft x uw ud) (rRight x uw ud) (rPlace x uw) (ix2 i l)
      = choose (x (ix2 i l)) ((valOut (w l) (h l) (d l) (cl (x (ix2 i l))) : ℝ) : EReal) (x (ix2 i l)) := by
  obtain ⟨-, hlo, hhi⟩ := cl_spec (x (ix2 i l))
  have e1 := rLow_at x uw uh w h hw i l hh
  have e2 := rStep_at x uw uh w h hw i l hh
  have e3 := rSlope_at x uw uh w h hw i l hh
  have e4 := rLeft_at x uw ud w d hw i l hd
  have e5 := rRight_at x uw ud w d hw i l hd
  have e6 := rPlace_at x uw w hw i l
  pointwise [out1, inside, value, denom, mid, lit, e1, e2, e3, e4, e5, e6]
  rw [bits_m3, bits_3, bits_2, show (1 : EReal) = ((1 : ℝ) : EReal) from rfl, ref_den, ref_out _ _ _ _ _ _ (den_ne hlo hhi)]
  rfl

/-- The logarithm of the derivative at a point. -/
theorem logder_at (hh : ∀ f k, uh (ix2 f k) = ((h f k : ℝ) : EReal)) (hd : ∀ f k, ud (ix2 f k) = ((d f k : ℝ) : EReal)) :
    logder (rSlope x uw uh) (rLeft x uw ud) (rRight x uw ud) (rPlace x uw) (ix2 i l)
      = valLad (w l) (h l) (d l) (cl (x (ix2 i l))) := by
  have e3 := rSlope_at x uw uh w h hw i l hh
  have e4 := rLeft_at x uw ud w d hw i l hd
  have e5 := rRight_at x uw ud w d hw i l hd
  have e6 := rPlace_at x uw w hw i l
  pointwise [logder, denom, mid, lit, e3, e4, e5, e6]
  rw [bits_2, show (1 : EReal) = ((1 : ℝ) : EReal) from rfl, ref_den, ref_lad]
  rfl

/-- The second result: the sum of those logarithms over a row's points between the two ends. -/
theorem out2_at (hh : ∀ f k, uh (ix2 f k) = ((h f k : ℝ) : EReal)) (hd : ∀ f k, ud (ix2 f k) = ((d f k : ℝ) : EReal)) :
    out2 x (rSlope x uw uh) (rLeft x uw ud) (rRight x uw ud) (rPlace x uw) (ix1 i)
      = ∑ l, choose (x (ix2 i l)) (valLad (w l) (h l) (d l) (cl (x (ix2 i l)))) ((0 : ℝ) : EReal) := by
  have e := fun l => logder_at x uw uh ud w h d hw i l hh hd
  pointwise [out2, inside, e, id, constant]
  rw [bits_m3, bits_3]
  rfl

end Results

end Cert.ReferenceIdeal.Spline

end
-- ==== Proof.Algebra.lean ====
/- The equation: finite parameters are real numbers, and then the kernel and the reference leave the same two arrays. -/
module

public import proofs.«01_k».proof.Defs
public import proofs.«01_k».proof.Proof.Arrays
public import proofs.«01_k».proof.Proof.KernelRun
public import proofs.«01_k».proof.Proof.RefValue
public import proofs.«01_k».proof.Proof.Gen.Pre_finite_params
public import Idealize.ShloMosaic.Lib.ReduceAll

@[expose] public section

set_option maxRecDepth 16384

noncomputable section

namespace Cert.Spline

open Idealize.ShloMosaic Idealize.ShloMosaic.TcCoe Idealize.SL.Sem
open Cert.KernelIdeal.Spline (Params resOut resLad aX aW aH aD)

/-! ## The precondition -/

/-- An extended real of which the comparison with infinity came out true is a real number. -/
theorem real_of_olt (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  rw [bits_top] at h
  have hx : max x (-x) < ⊤ := by
    have h : BitVec.ofBool (decide (max x (-x) < ⊤)) = 1#1 := h
    exact of_decide_eq_true ((WordCmp.ofBool_eq_one_iff _).1 h)
  refine (EReal.coe_toReal (fun e => ?_) (fun e => ?_)).symm
  · rw [e, max_eq_left le_top] at hx; exact lt_irrefl _ hx
  · rw [e, EReal.neg_bot, max_eq_right bot_le] at hx; exact lt_irrefl _ hx

instance : Subsingleton Cert.Pre_finite_params.S_.Idx := ⟨fun a b => funext fun i => i.elim0⟩

/-- Finite parameters are real numbers. -/
theorem params (m : (ℓ : Loc Cert.KernelIdeal.nD Cert.KernelIdeal.τ Cert.KernelIdeal.sig) → Buf (Elt Ideal) ℓ) (h : Cert.Pre_KernelIdeal_finite_params m)
    (c : Dev Cert.KernelIdeal.nD) :
    Params m c (fun f k => (aW m c (ix2 f k)).toReal) (fun f k => (aH m c (ix2 f k)).toReal) (fun f k => (aD m c (ix2 f k)).toReal) := by
  have e := congrFun (h c) (fun i => i.elim0)
  obtain ⟨e, e3⟩ := IntOp.andi_eq_one.1 e
  obtain ⟨e1, e2⟩ := IntOp.andi_eq_one.1 e
  exact ⟨fun f k => real_of_olt _ (Host.reduce_andi_all _ _ _ _ _ e1 (ix2 f k)),
    fun f k => real_of_olt _ (Host.reduce_andi_all _ _ _ _ _ e2 (ix2 f k)),
    fun f k => real_of_olt _ (Host.reduce_andi_all _ _ _ _ _ e3 (ix2 f k))⟩

/-! ## The two runs -/

/-- An index of two axes and of one, from their coordinates. -/
theorem idx2 {a b : ℕ} (j : (⟨2, ![a, b]⟩ : Shape).Idx) : j = ix2 (j 0) (j 1) := funext fun i => by fin_cases i <;> rfl
theorem idx1 {a : ℕ} (j : (⟨1, ![a]⟩ : Shape).Idx) : j = ix1 (j 0) := funext fun i => by fin_cases i; rfl

/-- The reference's results over arrays that hold real parameters. -/
theorem ref_results (x : FVec Ideal Cert.ReferenceIdeal.S4096x512 .f32) (uw uh : FVec Ideal Cert.ReferenceIdeal.S512x32 .f32) (ud : FVec Ideal Cert.ReferenceIdeal.S512x31 .f32)
    (w h : Fin 512 → Fin 32 → ℝ) (d : Fin 512 → Fin 31 → ℝ)
    (hw : ∀ f k, uw (ix2 f k) = ((w f k : ℝ) : EReal)) (hh : ∀ f k, uh (ix2 f k) = ((h f k : ℝ) : EReal))
    (hd : ∀ f k, ud (ix2 f k) = ((d f k : ℝ) : EReal)) :
    open Cert.ReferenceIdeal.Spline in
    out1 x (rLow x uw uh) (rStep x uw uh) (rSlope x uw uh) (rLeft x uw ud) (rRight x uw ud) (rPlace x uw) = (fun i => resOut x w h d (i 0) (i 1))
    ∧ out2 x (rSlope x uw uh) (rLeft x uw ud) (rRight x uw ud) (rPlace x uw) = (fun i => resLad x w h d (i 0)) := by
  constructor
  · funext j
    refine (congrArg _ (idx2 j)).trans ?_
    exact Cert.ReferenceIdeal.Spline.out1_at x uw uh ud w h d hw (j 0) (j 1) hh hd
  · funext j
    refine (congrArg _ (idx1 j)).trans ?_
    exact Cert.ReferenceIdeal.Spline.out2_at x uw uh ud w h d hw (j 0) hh hd

/-- The kernel and the reference compute the same two arrays over the extended reals. -/
theorem algebraic : Cert.algebraic_KernelIdeal_ReferenceIdeal_pre_finite_params := by
  intro m g m' g' hp hm
  refine ⟨fun c => (show FVec Ideal Cert.KernelIdeal.S4096x512 .f32 from fun i => resOut (aX m c) (fun f k => (aW m c (ix2 f k)).toReal) (fun f k => (aH m c (ix2 f k)).toReal)
      (fun f k => (aD m c (ix2 f k)).toReal) (i 0) (i 1)),
    fun c => (show FVec Ideal Cert.KernelIdeal.S4096 .f32 from fun i => resLad (aX m c) (fun f k => (aW m c (ix2 f k)).toReal) (fun f k => (aH m c (ix2 f k)).toReal)
      (fun f k => (aD m c (ix2 f k)).toReal) (i 0)), ?_, ?_⟩
  · refine (θ_run _ _ _).mono (fun r h c => ?_) (Cert.KernelIdeal.Spline.run m g)
    obtain ⟨h0, h1, h⟩ := h c
    exact ⟨h0.trans (Cert.KernelIdeal.Spline.final1 g (params m hp c)), h1.trans (Cert.KernelIdeal.Spline.final2 g (params m hp c)), h⟩
  · refine (θ_run _ _ _).mono (fun r h c => ?_) (Cert.ReferenceIdeal.Spline.runForms m' g')
    obtain ⟨h0, h1, h⟩ := h c
    obtain ⟨a0, a1, a2, a3⟩ := hm c
    obtain ⟨pw, ph, pd⟩ := params m hp c
    have e := ref_results (aX m c) (aW m c) (aH m c) (aD m c) _ _ _ pw ph pd
    refine ⟨h0.trans (Eq.trans ?_ e.1), h1.trans (Eq.trans ?_ e.2), h⟩
    · rw [show aX m c = _ from a0.symm, show aW m c = _ from a1.symm, show aH m c = _ from a2.symm, show aD m c = _ from a3.symm]
    · rw [show aX m c = _ from a0.symm, show aW m c = _ from a1.symm, show aH m c = _ from a2.symm, show aD m c = _ from a3.symm]

end Cert.Spline

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_params
public import proofs.«01_k».proof.Proof.Algebra
public import Idealize.ShloMosaic.Adequacy
public import Idealize.ShloMosaic.Init

@[expose] public section

noncomputable section

namespace Cert.Proof

open Idealize.ShloMosaic Idealize.SL.Sem

/-- The reference runs, leaves its arguments unchanged, and declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Spline.runForms m ρ)

theorem claim : Cert.Claim :=
  ⟨Cert.Kernel.Gen.facts, Cert.KernelIdeal.Gen.facts, Cert.ReferenceIdeal.Gen.facts, Cert.Pre_finite_params.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, Cert.Spline.algebraic⟩

end Cert.Proof

end
